-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v83) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x300 : Shape := ⟨3, ![4, 512, 300]⟩
abbrev S300x256 : Shape := ⟨2, ![300, 256]⟩
abbrev S256 : Shape := ⟨1, ![256]⟩
abbrev S256x300 : Shape := ⟨2, ![256, 300]⟩
abbrev S300 : Shape := ⟨1, ![300]⟩
abbrev S8x1x1 : Shape := ⟨3, ![8, 1, 1]⟩
abbrev S32768x256 : Shape := ⟨2, ![32768, 256]⟩
abbrev S1x256 : Shape := ⟨2, ![1, 256]⟩
abbrev S1x300 : Shape := ⟨2, ![1, 300]⟩
abbrev S4x512x256 : Shape := ⟨3, ![4, 512, 256]⟩
abbrev S1x512x300 : Shape := ⟨3, ![1, 512, 300]⟩
abbrev S1x512x256 : Shape := ⟨3, ![1, 512, 256]⟩
abbrev S512x300 : Shape := ⟨2, ![512, 300]⟩
abbrev S512x256 : Shape := ⟨2, ![512, 256]⟩
abbrev S512x512 : Shape := ⟨2, ![512, 512]⟩
abbrev S512x32 : Shape := ⟨2, ![512, 32]⟩
abbrev S512 : Shape := ⟨1, ![512]⟩
abbrev S512x1 : Shape := ⟨2, ![512, 1]⟩
abbrev S4x512x32768 : Shape := ⟨3, ![4, 512, 32768]⟩
abbrev S4096x256 : Shape := ⟨2, ![4096, 256]⟩
abbrev S1x512x4096 : Shape := ⟨3, ![1, 512, 4096]⟩
abbrev S512x4096 : Shape := ⟨2, ![512, 4096]⟩
abbrev S4x512x32 : Shape := ⟨3, ![4, 512, 32]⟩
abbrev S_ : Shape := ⟨0, ![]⟩
abbrev S4x512x32x1 : Shape := ⟨4, ![4, 512, 32, 1]⟩
abbrev S1 : Shape := ⟨1, ![1]⟩
abbrev S1x1x1x1 : Shape := ⟨4, ![1, 1, 1, 1]⟩
abbrev S4x512x32x256 : Shape := ⟨4, ![4, 512, 32, 256]⟩
abbrev S1x256x256 : Shape := ⟨3, ![1, 256, 256]⟩
abbrev S1x256x32x256 : Shape := ⟨4, ![1, 256, 32, 256]⟩
abbrev S1x256x300 : Shape := ⟨3, ![1, 256, 300]⟩
abbrev S256x256 : Shape := ⟨2, ![256, 256]⟩
abbrev S256x32x256 : Shape := ⟨3, ![256, 32, 256]⟩
abbrev S256x32 : Shape := ⟨2, ![256, 32]⟩
abbrev S256x32x32 : Shape := ⟨3, ![256, 32, 32]⟩
abbrev S256x1x32 : Shape := ⟨3, ![256, 1, 32]⟩
abbrev S256x1 : Shape := ⟨2, ![256, 1]⟩
abbrev S256x32x1 : Shape := ⟨3, ![256, 32, 1]⟩
abbrev S1x1x1 : Shape := ⟨3, ![1, 1, 1]⟩
abbrev S1x1 : Shape := ⟨2, ![1, 1]⟩
abbrev S4x512x1x256 : Shape := ⟨4, ![4, 512, 1, 256]⟩
abbrev S4x512x2x256 : Shape := ⟨4, ![4, 512, 2, 256]⟩

abbrev nBuf : Space → Nat
  | .hbm => 73
  | .vmem => 35
  | .smem => 0
  | _ => 0

abbrev bufTy : (tb : Table) → Fin (tcTables nBuf tb) → BufTy
  | .hbm, ⟨0, _⟩ => ⟨S4x512x300, .f32⟩
  | .hbm, ⟨1, _⟩ => ⟨S300x256, .f32⟩
  | .hbm, ⟨2, _⟩ => ⟨S256, .f32⟩
  | .hbm, ⟨3, _⟩ => ⟨S300x256, .f32⟩
  | .hbm, ⟨4, _⟩ => ⟨S256, .f32⟩
  | .hbm, ⟨5, _⟩ => ⟨S300x256, .f32⟩
  | .hbm, ⟨6, _⟩ => ⟨S256, .f32⟩
  | .hbm, ⟨7, _⟩ => ⟨S256x300, .f32⟩
  | .hbm, ⟨8, _⟩ => ⟨S300, .f32⟩
  | .hbm, ⟨9, _⟩ => ⟨S8x1x1, .f32⟩
  | .hbm, ⟨10, _⟩ => ⟨S32768x256, .f32⟩
  | .hbm, ⟨11, _⟩ => ⟨S32768x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x300, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S4x512x256, .f32⟩
  | .hbm, ⟨20, _⟩ => ⟨S4x512x32768, .f32⟩
  | .hbm, ⟨21, _⟩ => ⟨S4x512x32, .f32⟩
  | .hbm, ⟨22, _⟩ => ⟨S4x512x32, .i32⟩
  | .hbm, ⟨23, _⟩ => ⟨S_, .i32⟩
  | .hbm, ⟨24, _⟩ => ⟨S4x512x32, .i32⟩
  | .hbm, ⟨25, _⟩ => ⟨S4x512x32, .i1⟩
  | .hbm, ⟨26, _⟩ => ⟨S_, .i32⟩
  | .hbm, ⟨27, _⟩ => ⟨S4x512x32, .i32⟩
  | .hbm, ⟨28, _⟩ => ⟨S4x512x32, .i32⟩
  | .hbm, ⟨29, _⟩ => ⟨S4x512x32, .i32⟩
  | .hbm, ⟨30, _⟩ => ⟨S4x512x32x1, .i32⟩
  | .hbm, ⟨31, _⟩ => ⟨S1, .i32⟩
  | .hbm, ⟨32, _⟩ => ⟨S_, .i32⟩
  | .hbm, ⟨33, _⟩ => ⟨S4x512x32x1, .i32⟩
  | .hbm, ⟨34, _⟩ => ⟨S4x512x32x1, .i1⟩
  | .hbm, ⟨35, _⟩ => ⟨S1x1x1x1, .i32⟩
  | .hbm, ⟨36, _⟩ => ⟨S4x512x32x1, .i32⟩
  | .hbm, ⟨37, _⟩ => ⟨S4x512x32x1, .i1⟩
  | .hbm, ⟨38, _⟩ => ⟨S4x512x32x1, .i1⟩
  | .hbm, ⟨39, _⟩ => ⟨S_, .i1⟩
  | .hbm, ⟨40, _⟩ => ⟨S4x512x32, .i1⟩
  | .hbm, ⟨41, _⟩ => ⟨S4x512x32x256, .f32⟩
  | .hbm, ⟨42, _⟩ => ⟨S4x512x32x256, .i1⟩
  | .hbm, ⟨43, _⟩ => ⟨S_, .f32⟩
  | .hbm, ⟨44, _⟩ => ⟨S4x512x32x256, .f32⟩
  | .hbm, ⟨45, _⟩ => ⟨S4x512x32x256, .f32⟩
  | .hbm, ⟨46, _⟩ => ⟨S_, .i32⟩
  | .hbm, ⟨47, _⟩ => ⟨S4x512x32, .i32⟩
  | .hbm, ⟨48, _⟩ => ⟨S4x512x32, .i1⟩
  | .hbm, ⟨49, _⟩ => ⟨S_, .i32⟩
  | .hbm, ⟨50, _⟩ => ⟨S4x512x32, .i32⟩
  | .hbm, ⟨51, _⟩ => ⟨S4x512x32, .i32⟩
  | .hbm, ⟨52, _⟩ => ⟨S4x512x32, .i32⟩
  | .hbm, ⟨53, _⟩ => ⟨S4x512x32x1, .i32⟩
  | .hbm, ⟨54, _⟩ => ⟨S1, .i32⟩
  | .hbm, ⟨55, _⟩ => ⟨S_, .i32⟩
  | .hbm, ⟨56, _⟩ => ⟨S4x512x32x1, .i32⟩
  | .hbm, ⟨57, _⟩ => ⟨S4x512x32x1, .i1⟩
  | .hbm, ⟨58, _⟩ => ⟨S1x1x1x1, .i32⟩
  | .hbm, ⟨59, _⟩ => ⟨S4x512x32x1, .i32⟩
  | .hbm, ⟨60, _⟩ => ⟨S4x512x32x1, .i1⟩
  | .hbm, ⟨61, _⟩ => ⟨S4x512x32x1, .i1⟩
  | .hbm, ⟨62, _⟩ => ⟨S_, .i1⟩
  | .hbm, ⟨63, _⟩ => ⟨S4x512x32, .i1⟩
  | .hbm, ⟨64, _⟩ => ⟨S4x512x32x256, .f32⟩
  | .hbm, ⟨65, _⟩ => ⟨S4x512x32x256, .i1⟩
  | .hbm, ⟨66, _⟩ => ⟨S_, .f32⟩
  | .hbm, ⟨67, _⟩ => ⟨S4x512x32x256, .f32⟩
  | .hbm, ⟨68, _⟩ => ⟨S4x512x32x256, .f32⟩
  | .hbm, ⟨69, _⟩ => ⟨S4x512x300, .f32⟩
  | .hbm, ⟨70, _⟩ => ⟨S4x512x1x256, .f32⟩
  | .hbm, ⟨71, _⟩ => ⟨S4x512x1x256, .f32⟩
  | .hbm, ⟨72, _⟩ => ⟨S4x512x2x256, .f32⟩
  | .local _ .vmem, ⟨0, _⟩ => ⟨S1x512x300, .f32⟩
  | .local _ .vmem, ⟨1, _⟩ => ⟨S1x512x300, .f32⟩
  | .local _ .vmem, ⟨2, _⟩ => ⟨S300x256, .f32⟩
  | .local _ .vmem, ⟨3, _⟩ => ⟨S1x256, .f32⟩
  | .local _ .vmem, ⟨4, _⟩ => ⟨S300x256, .f32⟩
  | .local _ .vmem, ⟨5, _⟩ => ⟨S1x256, .f32⟩
  | .local _ .vmem, ⟨6, _⟩ => ⟨S300x256, .f32⟩
  | .local _ .vmem, ⟨7, _⟩ => ⟨S1x256, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x512x256, .f32⟩
  | .local _ .vmem, ⟨13, _⟩ => ⟨S1x512x256, .f32⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S4096x256, .f32⟩
  | .local _ .vmem, ⟨19, _⟩ => ⟨S4096x256, .f32⟩
  | .local _ .vmem, ⟨20, _⟩ => ⟨S1x512x4096, .f32⟩
  | .local _ .vmem, ⟨21, _⟩ => ⟨S1x512x4096, .f32⟩
  | .local _ .vmem, ⟨22, _⟩ => ⟨S1x256x256, .f32⟩
  | .local _ .vmem, ⟨23, _⟩ => ⟨S1x256x256, .f32⟩
  | .local _ .vmem, ⟨24, _⟩ => ⟨S1x256x256, .f32⟩
  | .local _ .vmem, ⟨25, _⟩ => ⟨S1x256x256, .f32⟩
  | .local _ .vmem, ⟨26, _⟩ => ⟨S1x256x32x256, .f32⟩
  | .local _ .vmem, ⟨27, _⟩ => ⟨S1x256x32x256, .f32⟩
  | .local _ .vmem, ⟨28, _⟩ => ⟨S1x256x32x256, .f32⟩
  | .local _ .vmem, ⟨29, _⟩ => ⟨S1x256x32x256, .f32⟩
  | .local _ .vmem, ⟨30, _⟩ => ⟨S8x1x1, .f32⟩
  | .local _ .vmem, ⟨31, _⟩ => ⟨S256x300, .f32⟩
  | .local _ .vmem, ⟨32, _⟩ => ⟨S1x300, .f32⟩
  | .local _ .vmem, ⟨33, _⟩ => ⟨S1x256x300, .f32⟩
  | .local _ .vmem, ⟨34, _⟩ => ⟨S1x256x300, .f32⟩
  | _, _ => ⟨S4x512x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev main_v4_3 : Ref sig .tc := ⟨.hbm, 19, rfl⟩
abbrev main_v5 : Ref sig .tc := ⟨.hbm, 20, rfl⟩
abbrev main_values : Ref sig .tc := ⟨.hbm, 21, rfl⟩
abbrev main_indices : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v6 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v7 : Ref sig .tc := ⟨.hbm, 68, rfl⟩
abbrev main_v8 : Ref sig .tc := ⟨.hbm, 69, rfl⟩
abbrev main_v9 : Ref sig .tc := ⟨.hbm, 70, rfl⟩
abbrev main_v10 : Ref sig .tc := ⟨.hbm, 71, rfl⟩
abbrev main_v11 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg7_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem7_1 : DmaSem sig := 34

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S300x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S300x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 2], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x32x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x256x32x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S8x1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S256x300 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x300 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x256x300 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]
-- ==== ReferenceIdeal.lean ====
abbrev S4x512x300 : Shape := ⟨3, ![4, 512, 300]⟩
abbrev S300x256 : Shape := ⟨2, ![300, 256]⟩
abbrev S256 : Shape := ⟨1, ![256]⟩
abbrev S256x300 : Shape := ⟨2, ![256, 300]⟩
abbrev S300 : Shape := ⟨1, ![300]⟩
abbrev S8x1x1 : Shape := ⟨3, ![8, 1, 1]⟩
abbrev S32768x256 : Shape := ⟨2, ![32768, 256]⟩
abbrev S4x512x256 : Shape := ⟨3, ![4, 512, 256]⟩
abbrev S1x1x256 : Shape := ⟨3, ![1, 1, 256]⟩
abbrev S4x512x8x32 : Shape := ⟨4, ![4, 512, 8, 32]⟩
abbrev S4x8x512x32 : Shape := ⟨4, ![4, 8, 512, 32]⟩
abbrev S4x8x512x512 : Shape := ⟨4, ![4, 8, 512, 512]⟩
abbrev S_ : Shape := ⟨0, ![]⟩
abbrev S512x512 : Shape := ⟨2, ![512, 512]⟩
abbrev S4x8x512 : Shape := ⟨3, ![4, 8, 512]⟩
abbrev S4x8x512x1 : Shape := ⟨4, ![4, 8, 512, 1]⟩
abbrev S4x512x32768 : Shape := ⟨3, ![4, 512, 32768]⟩
abbrev S4x512x32 : Shape := ⟨3, ![4, 512, 32]⟩
abbrev S4x512x32x1 : Shape := ⟨4, ![4, 512, 32, 1]⟩
abbrev S1 : Shape := ⟨1, ![1]⟩
abbrev S1x1x1x1 : Shape := ⟨4, ![1, 1, 1, 1]⟩
abbrev S4x512x32x256 : Shape := ⟨4, ![4, 512, 32, 256]⟩
abbrev S4x512x32x8x32 : Shape := ⟨5, ![4, 512, 32, 8, 32]⟩
abbrev S4x8x512x32x32 : Shape := ⟨5, ![4, 8, 512, 32, 32]⟩
abbrev S1x8x1x1 : Shape := ⟨4, ![1, 8, 1, 1]⟩
abbrev S4x512x1x256 : Shape := ⟨4, ![4, 512, 1, 256]⟩
abbrev S4x512x2x256 : Shape := ⟨4, ![4, 512, 2, 256]⟩
abbrev S1x1x300 : Shape := ⟨3, ![1, 1, 300]⟩

abbrev nBuf : Space → Nat
  | .hbm => 170
  | .vmem => 0
  | .smem => 0
  | _ => 0

abbrev hbmTy0_0 (i : Nat) : BufTy := match i % 128 with
  | 0 => ⟨S4x512x300, .f32⟩
  | 1 => ⟨S300x256, .f32⟩
  | 2 => ⟨S256, .f32⟩
  | 3 => ⟨S300x256, .f32⟩
  | 4 => ⟨S256, .f32⟩
  | 5 => ⟨S300x256, .f32⟩
  | 6 => ⟨S256, .f32⟩
  | 7 => ⟨S256x300, .f32⟩
  | 8 => ⟨S300, .f32⟩
  | 9 => ⟨S8x1x1, .f32⟩
  | 10 => ⟨S32768x256, .f32⟩
  | 11 => ⟨S32768x256, .f32⟩
  | 12 => ⟨S4x512x256, .f32⟩
  | 13 => ⟨S1x1x256, .f32⟩
  | 14 => ⟨S4x512x256, .f32⟩
  | 15 => ⟨S4x512x256, .f32⟩
  | 16 => ⟨S4x512x8x32, .f32⟩
  | 17 => ⟨S4x8x512x32, .f32⟩
  | 18 => ⟨S4x512x256, .f32⟩
  | 19 => ⟨S1x1x256, .f32⟩
  | 20 => ⟨S4x512x256, .f32⟩
  | 21 => ⟨S4x512x256, .f32⟩
  | 22 => ⟨S4x512x8x32, .f32⟩
  | 23 => ⟨S4x8x512x32, .f32⟩
  | 24 => ⟨S4x512x256, .f32⟩
  | 25 => ⟨S1x1x256, .f32⟩
  | 26 => ⟨S4x512x256, .f32⟩
  | 27 => ⟨S4x512x256, .f32⟩
  | 28 => ⟨S4x512x8x32, .f32⟩
  | 29 => ⟨S4x8x512x32, .f32⟩
  | 30 => ⟨S4x8x512x512, .f32⟩
  | 31 => ⟨S_, .f32⟩
  | 32 => ⟨S4x8x512x512, .f32⟩
  | 33 => ⟨S4x8x512x512, .f32⟩
  | 34 => ⟨S_, .i1⟩
  | 35 => ⟨S512x512, .i1⟩
  | 36 => ⟨S512x512, .i32⟩
  | 37 => ⟨S_, .i32⟩
  | 38 => ⟨S512x512, .i32⟩
  | 39 => ⟨S512x512, .i32⟩
  | 40 => ⟨S512x512, .i32⟩
  | 41 => ⟨S512x512, .i1⟩
  | 42 => ⟨S_, .i1⟩
  | 43 => ⟨S512x512, .i1⟩
  | 44 => ⟨S512x512, .i1⟩
  | 45 => ⟨S_, .f32⟩
  | 46 => ⟨S_, .f32⟩
  | 47 => ⟨S4x8x512x512, .i1⟩
  | 48 => ⟨S4x8x512x512, .f32⟩
  | 49 => ⟨S4x8x512x512, .f32⟩
  | 50 => ⟨S_, .f32⟩
  | 51 => ⟨S4x8x512, .f32⟩
  | 52 => ⟨S_, .f32⟩
  | 53 => ⟨S4x8x512, .f32⟩
  | 54 => ⟨S4x8x512, .f32⟩
  | 55 => ⟨S4x8x512x1, .f32⟩
  | 56 => ⟨S4x8x512x512, .f32⟩
  | 57 => ⟨S4x8x512x512, .f32⟩
  | 58 => ⟨S4x8x512x512, .f32⟩
  | 59 => ⟨S_, .f32⟩
  | 60 => ⟨S4x8x512, .f32⟩
  | 61 => ⟨S4x8x512x1, .f32⟩
  | 62 => ⟨S4x8x512x512, .f32⟩
  | 63 => ⟨S4x8x512x512, .f32⟩
  | 64 => ⟨S4x8x512x32, .f32⟩
  | 65 => ⟨S4x512x8x32, .f32⟩
  | 66 => ⟨S4x512x256, .f32⟩
  | 67 => ⟨S4x512x32768, .f32⟩
  | 68 => ⟨S4x512x32, .f32⟩
  | 69 => ⟨S4x512x32, .i32⟩
  | 70 => ⟨S_, .i32⟩
  | 71 => ⟨S4x512x32, .i32⟩
  | 72 => ⟨S4x512x32, .i1⟩
  | 73 => ⟨S_, .i32⟩
  | 74 => ⟨S4x512x32, .i32⟩
  | 75 => ⟨S4x512x32, .i32⟩
  | 76 => ⟨S4x512x32, .i32⟩
  | 77 => ⟨S4x512x32x1, .i32⟩
  | 78 => ⟨S1, .i32⟩
  | 79 => ⟨S_, .i32⟩
  | 80 => ⟨S4x512x32x1, .i32⟩
  | 81 => ⟨S4x512x32x1, .i1⟩
  | 82 => ⟨S1x1x1x1, .i32⟩
  | 83 => ⟨S4x512x32x1, .i32⟩
  | 84 => ⟨S4x512x32x1, .i1⟩
  | 85 => ⟨S4x512x32x1, .i1⟩
  | 86 => ⟨S_, .i1⟩
  | 87 => ⟨S4x512x32, .i1⟩
  | 88 => ⟨S4x512x32x256, .f32⟩
  | 89 => ⟨S4x512x32x256, .i1⟩
  | 90 => ⟨S_, .f32⟩
  | 91 => ⟨S4x512x32x256, .f32⟩
  | 92 => ⟨S4x512x32x256, .f32⟩
  | 93 => ⟨S_, .i32⟩
  | 94 => ⟨S4x512x32, .i32⟩
  | 95 => ⟨S4x512x32, .i1⟩
  | 96 => ⟨S_, .i32⟩
  | 97 => ⟨S4x512x32, .i32⟩
  | 98 => ⟨S4x512x32, .i32⟩
  | 99 => ⟨S4x512x32, .i32⟩
  | 100 => ⟨S4x512x32x1, .i32⟩
  | 101 => ⟨S1, .i32⟩
  | 102 => ⟨S_, .i32⟩
  | 103 => ⟨S4x512x32x1, .i32⟩
  | 104 => ⟨S4x512x32x1, .i1⟩
  | 105 => ⟨S1x1x1x1, .i32⟩
  | 106 => ⟨S4x512x32x1, .i32⟩
  | 107 => ⟨S4x512x32x1, .i1⟩
  | 108 => ⟨S4x512x32x1, .i1⟩
  | 109 => ⟨S_, .i1⟩
  | 110 => ⟨S4x512x32, .i1⟩
  | 111 => ⟨S4x512x32x256, .f32⟩
  | 112 => ⟨S4x512x32x256, .i1⟩
  | 113 => ⟨S_, .f32⟩
  | 114 => ⟨S4x512x32x256, .f32⟩
  | 115 => ⟨S4x512x32x256, .f32⟩
  | 116 => ⟨S4x512x32x8x32, .f32⟩
  | 117 => ⟨S4x8x512x32x32, .f32⟩
  | 118 => ⟨S4x512x32x8x32, .f32⟩
  | 119 => ⟨S4x8x512x32x32, .f32⟩
  | 120 => ⟨S4x8x512x32, .f32⟩
  | 121 => ⟨S_, .f32⟩
  | 122 => ⟨S4x8x512x32, .f32⟩
  | 123 => ⟨S4x8x512x32, .f32⟩
  | 124 => ⟨S_, .f32⟩
  | 125 => ⟨S4x8x512, .f32⟩
  | 126 => ⟨S_, .f32⟩
  | 127 => ⟨S4x8x512, .f32⟩
  | _ => ⟨S4x512x300, .f32⟩

abbrev hbmTy0_1 (i : Nat) : BufTy := match i % 128 with
  | 0 => ⟨S4x8x512, .f32⟩
  | 1 => ⟨S4x8x512x1, .f32⟩
  | 2 => ⟨S4x8x512x32, .f32⟩
  | 3 => ⟨S4x8x512x32, .f32⟩
  | 4 => ⟨S4x8x512x32, .f32⟩
  | 5 => ⟨S_, .f32⟩
  | 6 => ⟨S4x8x512, .f32⟩
  | 7 => ⟨S4x8x512x1, .f32⟩
  | 8 => ⟨S4x8x512x32, .f32⟩
  | 9 => ⟨S4x8x512x32, .f32⟩
  | 10 => ⟨S4x8x512x32, .f32⟩
  | 11 => ⟨S8x1x1, .f32⟩
  | 12 => ⟨S8x1x1, .f32⟩
  | 13 => ⟨S_, .f32⟩
  | 14 => ⟨S8x1x1, .f32⟩
  | 15 => ⟨S8x1x1, .f32⟩
  | 16 => ⟨S_, .f32⟩
  | 17 => ⟨S8x1x1, .f32⟩
  | 18 => ⟨S8x1x1, .f32⟩
  | 19 => ⟨S1x8x1x1, .f32⟩
  | 20 => ⟨S4x8x512x32, .f32⟩
  | 21 => ⟨S4x8x512x32, .f32⟩
  | 22 => ⟨S_, .f32⟩
  | 23 => ⟨S8x1x1, .f32⟩
  | 24 => ⟨S8x1x1, .f32⟩
  | 25 => ⟨S1x8x1x1, .f32⟩
  | 26 => ⟨S4x8x512x32, .f32⟩
  | 27 => ⟨S4x8x512x32, .f32⟩
  | 28 => ⟨S4x8x512x32, .f32⟩
  | 29 => ⟨S4x512x8x32, .f32⟩
  | 30 => ⟨S4x512x256, .f32⟩
  | 31 => ⟨S4x512x8x32, .f32⟩
  | 32 => ⟨S4x512x256, .f32⟩
  | 33 => ⟨S4x512x8x32, .f32⟩
  | 34 => ⟨S4x512x256, .f32⟩
  | 35 => ⟨S4x512x1x256, .f32⟩
  | 36 => ⟨S4x512x1x256, .f32⟩
  | 37 => ⟨S4x512x2x256, .f32⟩
  | 38 => ⟨S4x512x300, .f32⟩
  | 39 => ⟨S1x1x300, .f32⟩
  | 40 => ⟨S4x512x300, .f32⟩
  | 41 => ⟨S4x512x300, .f32⟩
  | _ => ⟨S4x512x300, .f32⟩

abbrev hbmTy (i : Nat) : BufTy := match i / 128 with
  | 0 => hbmTy0_0 i
  | 1 => hbmTy0_1 i
  | _ => ⟨S4x512x300, .f32⟩

abbrev bufTy : (tb : Table) → Fin (tcTables nBuf tb) → BufTy
  | .hbm, ⟨i, _⟩ => hbmTy i
  | _, _ => ⟨S4x512x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_0 : Ref sig .tc := ⟨.hbm, 42, rfl⟩
abbrev main_call0_v5 : Ref sig .tc := ⟨.hbm, 43, rfl⟩
abbrev main_v22 : Ref sig .tc := ⟨.hbm, 44, rfl⟩
abbrev main_cst_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v23 : Ref sig .tc := ⟨.hbm, 49, rfl⟩
abbrev main_cst_1 : Ref sig .tc := ⟨.hbm, 50, rfl⟩
abbrev main_v24 : Ref sig .tc := ⟨.hbm, 51, rfl⟩
abbrev main_cst_2 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_3 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_values : Ref sig .tc := ⟨.hbm, 68, rfl⟩
abbrev main_indices : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v39 : Ref sig .tc := ⟨.hbm, 92, rfl⟩
abbrev main_call3_c : Ref sig .tc := ⟨.hbm, 93, rfl⟩
abbrev main_call3_v0 : Ref sig .tc := ⟨.hbm, 94, rfl⟩
abbrev main_call3_v1 : Ref sig .tc := ⟨.hbm, 95, rfl⟩
abbrev main_call3_c_0 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_c_1 : Ref sig .tc := ⟨.hbm, 101, rfl⟩
abbrev main_call3_c_2 : Ref sig .tc := ⟨.hbm, 102, rfl⟩
abbrev main_call3_v6 : Ref sig .tc := ⟨.hbm, 103, rfl⟩
abbrev main_call3_v7 : Ref sig .tc := ⟨.hbm, 104, rfl⟩
abbrev main_call3_v8 : Ref sig .tc := ⟨.hbm, 105, rfl⟩
abbrev main_call3_v9 : Ref sig .tc := ⟨.hbm, 106, rfl⟩
abbrev main_call3_v10 : Ref sig .tc := ⟨.hbm, 107, rfl⟩
abbrev main_call3_v11 : Ref sig .tc := ⟨.hbm, 108, rfl⟩
abbrev main_call3_c_3 : Ref sig .tc := ⟨.hbm, 109, rfl⟩
abbrev main_call3_v12 : Ref sig .tc := ⟨.hbm, 110, rfl⟩
abbrev main_call3_v13 : Ref sig .tc := ⟨.hbm, 111, rfl⟩
abbrev main_call3_v14 : Ref sig .tc := ⟨.hbm, 112, rfl⟩
abbrev main_call3_cst : Ref sig .tc := ⟨.hbm, 113, rfl⟩
abbrev main_call3_v15 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_v44 : Ref sig .tc := ⟨.hbm, 119, rfl⟩
abbrev main_v45 : Ref sig .tc := ⟨.hbm, 120, rfl⟩
abbrev main_cst_4 : Ref sig .tc := ⟨.hbm, 121, rfl⟩
abbrev main_v46 : Ref sig .tc := ⟨.hbm, 122, rfl⟩
abbrev main_v47 : Ref sig .tc := ⟨.hbm, 123, rfl⟩
abbrev main_cst_5 : Ref sig .tc := ⟨.hbm, 124, rfl⟩
abbrev main_v48 : Ref sig .tc := ⟨.hbm, 125, rfl⟩
abbrev main_cst_6 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_cst_7 : Ref sig .tc := ⟨.hbm, 133, rfl⟩
abbrev main_v55 : Ref sig .tc := ⟨.hbm, 134, rfl⟩
abbrev main_v56 : Ref sig .tc := ⟨.hbm, 135, rfl⟩
abbrev main_v57 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_v61 : Ref sig .tc := ⟨.hbm, 140, rfl⟩
abbrev main_cst_8 : Ref sig .tc := ⟨.hbm, 141, rfl⟩
abbrev main_v62 : Ref sig .tc := ⟨.hbm, 142, rfl⟩
abbrev main_v63 : Ref sig .tc := ⟨.hbm, 143, rfl⟩
abbrev main_cst_9 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_cst_10 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩

abbrev nD : Nat := 1
abbrev τ : Topo := Topo.v7x

variable {F : FTy → Type} [FloatOps F]
-- ==== Proof.Spec.lean ====
module

public import Idealize.ShloMosaic.Lib.Pointwise
public import Idealize.ShloMosaic.Lib.WordCmp

/-! The two attentions of the problem, element by element over the extended reals: the causal attention inside one
    sequence and the attention over 32 remembered positions, the gated mix of the two and the output projection. Both
    programs are read as these functions. -/

@[expose] public section

noncomputable section

namespace Cert.Proof

open Idealize.ShloMosaic

/-- Column `d` of head `h`: the heads lie side by side, 32 columns each. -/
abbrev col (h : Fin 8) (d : Fin 32) : Fin 256 := ⟨h.val * 32 + d.val, by omega⟩

/-- The head of column `c`. -/
abbrev headOf (c : Fin 256) : Fin 8 := ⟨c.val / 32, by omega⟩

/-- Column `c` inside its head. -/
abbrev inHead (c : Fin 256) : Fin 32 := ⟨c.val % 32, by omega⟩

/-- A column is the column of its head that it says it is. -/
theorem col_headOf (c : Fin 256) : col (headOf c) (inHead c) = c := Fin.ext (by simp only; omega)

/-- The scale of the logits, as printed. -/
abbrev scale : EReal := Ideal.ofBits .f32 0x3E3504F3#32

/-- The value a masked logit takes, as printed: negative infinity. -/
abbrev masked : EReal := Ideal.ofBits .f32 0xFF800000#32

/-- The printed pattern of negative infinity is the least extended real. -/
theorem masked_eq : masked = ⊥ := by
  simp [masked, Ideal.ofBits, Ideal.ieee]

/-- A scalar selection by a decided proposition is the `if` of it. -/
theorem select_decide (p : Prop) [Decidable p] (a b : EReal) : Scalar.select (BitVec.ofBool (decide p)) a b = if p then a else b := by
  by_cases h : p
  · rw [decide_eq_true h, if_pos h]; rfl
  · rw [decide_eq_false h, if_neg h]; rfl

/-- The causal mask as the kernel decides it: the column is past the row. -/
theorem later_eq (i x : Fin 512) :
    IntOp.cmpi .sgt (BitVec.ofNat 32 x.val) (BitVec.ofNat 32 i.val) = BitVec.ofBool (decide (i < x)) := by
  rw [WordCmp.cmpi_sgt_ofNat (by omega) (by omega)]
  rfl

/-- The greatest of a row's logits. -/
def rowMax {n : ℕ} (l : Fin n → EReal) : EReal := Finset.fold max masked l Finset.univ

/-- The softmax of a row of logits, shifted by the row's greatest. -/
def softmax {n : ℕ} (l : Fin n → EReal) (x : Fin n) : EReal :=
  Ideal.div (Ideal.exp (l x - rowMax l)) (∑ y, Ideal.exp (l y - rowMax l))

/-- The logit of query row `i` against key row `x` in head `h`: masked when the key comes later. -/
def logit (h : Fin 8) (q k : Fin 512 → Fin 256 → EReal) (i x : Fin 512) : EReal :=
  if i < x then masked else (∑ d : Fin 32, q i (col h d) * k x (col h d)) * scale

/-- Causal attention of head `h`, read at row `i` and column `d` of the head. -/
def dense (h : Fin 8) (q k v : Fin 512 → Fin 256 → EReal) (i : Fin 512) (d : Fin 32) : EReal :=
  ∑ x, softmax (logit h q k i) x * v x (col h d)

/-- The logit of one query row against its remembered key number `t`. -/
def memLogit (h : Fin 8) (q : Fin 256 → EReal) (ke : Fin 32 → Fin 256 → EReal) (t : Fin 32) : EReal :=
  (∑ d : Fin 32, q (col h d) * ke t (col h d)) * scale

/-- Attention of one query row over its 32 remembered positions, head `h`, column `d` of the head. -/
def memAttn (h : Fin 8) (q : Fin 256 → EReal) (ke ve : Fin 32 → Fin 256 → EReal) (d : Fin 32) : EReal :=
  ∑ t, softmax (memLogit h q ke) t * ve t (col h d)

/-- One row's two attentions mixed by the head's gate. -/
def mixed (qd q : Fin 256 → EReal) (ke ve : Fin 32 → Fin 256 → EReal) (gate : Fin 8 → EReal) (c : Fin 256) : EReal :=
  qd c * Ideal.logistic (gate (headOf c)) + memAttn (headOf c) q ke ve (inHead c) * (1 - Ideal.logistic (gate (headOf c)))

/-- One row of the result: the mix through the output projection. -/
def outRow (qd q : Fin 256 → EReal) (ke ve : Fin 32 → Fin 256 → EReal) (gate : Fin 8 → EReal)
    (wo : Fin 256 → Fin 300 → EReal) (bo : Fin 300 → EReal) (c : Fin 300) : EReal :=
  (∑ j, mixed qd q ke ve gate j * wo j c) + bo c

end Cert.Proof
-- ==== Proof.Dense.lean ====
module

public import proofs.«01_k».proof.Proof.Spec
public import proofs.«01_k».proof.Proof.Gen.KernelIdeal.Frame

/-! What the first kernel region's body stores, element by element: the three projections and the eight heads' causal
    attention. -/

@[expose] public section

noncomputable section

namespace Cert.Proof

open Idealize.ShloMosaic Cert.KernelIdeal Cert.KernelIdeal.Gen

/-- One head's causal attention, in the kernel's own vector operations: `off` is where the head's 32 columns begin. -/
def headDense (off : Fin 2 → ℕ) (hs : S512x256.Slices off S512x32) (q k v : FVec Ideal S512x256 .f32) : FVec Ideal S512x32 .f32 :=
  let s : FVec Ideal S512x512 .f32 := select k0_pay9 (broadcast S512x512 (Scalar.ofBits .f32 0xFF800000#32))
    (mulf (matmul dot_S512x32_S512x32_S512x512_1_1_0_0_n_n none (extractStridedSlice S512x32 off q hs) (extractStridedSlice S512x32 off k hs)
      (constant S512x512 .f32 0x00000000#32)) (broadcast S512x512 (Scalar.ofBits .f32 0x3E3504F3#32)))
  let e : FVec Ideal S512x512 .f32 := exp (subf s (broadcastTo S512x512 (shapeCast S512x1
    (multiReduction .maximumf [1] S512 s 0xFF800000#32 reduces_S512x512_S512 (.inl rfl) rfl) shapeCasts_S512_S512x1) broadcasts_S512x1_S512x512))
  matmul dot_S512x512_S512x32_S512x32_1_0_0_1_n_n none
    (divf e (broadcastTo S512x512 (shapeCast S512x1
      (multiReduction .add [1] S512 e 0x00000000#32 reduces_S512x512_S512 (.inl rfl) rfl) shapeCasts_S512_S512x1) broadcasts_S512x1_S512x512))
    (extractStridedSlice S512x32 off v hs) (constant S512x32 .f32 0x00000000#32)

/-- Every head's 32 columns are inside the 256. -/
theorem slices_head (h : Fin 8) : S512x256.Slices ![0, h.val * 32] S512x32 := by
  revert h; decide

/-- The kernel's mask, at an element. -/
theorem mask_apply (i x : Fin 512) : k0_pay9 (ix2 i x) = BitVec.ofBool (decide (i < x)) := by
  pointwise [k0_pay9]
  exact later_eq i x

/-- A head's vector at an element is the causal attention of the head. -/
theorem headDense_apply (h : Fin 8) (q k v : FVec Ideal S512x256 .f32) (i : Fin 512) (d : Fin 32) :
    headDense ![0, h.val * 32] (slices_head h) q k v (ix2 i d)
      = dense h (fun i c => q (ix2 i c)) (fun i c => k (ix2 i c)) (fun i c => v (ix2 i c)) i d := by
  pointwise [headDense]
  simp only [mask_apply, select_decide]
  rfl

/-- The block the body stores for the attention: the eight heads side by side. -/
theorem dense_concat (q k v : FVec Ideal S512x256 .f32) :
    k0_pay1 k0_pay9 (k0_pay10 q k v) (k0_pay11 q k v) (k0_pay14 k0_pay9 (k0_pay12 v) (k0_pay13 q k) (Scalar.ofBits .f32 0xFF800000#32))
      (k0_pay15 q k v k0_pay9) (k0_pay19 (k0_pay16 v) (k0_pay17 q k k0_pay9) (k0_pay18 q k k0_pay9)) (k0_pay20 q k v k0_pay9)
      (k0_pay21 q k v k0_pay9) (k0_pay22 v) (k0_pay23 q k) (Scalar.ofBits .f32 0xFF800000#32)
    = shapeCast S1x512x256 (concatenate S512x256 1 (List.ofFn fun h : Fin 8 => ⟨S512x32, headDense ![0, h.val * 32] (slices_head h) q k v⟩)
        concatenates_S512x32_S512x32_S512x32_S512x32_S512x32_S512x32_S512x32_S512x32_S512x256_d1) shapeCasts_S512x256_S1x512x256 := rfl

/-- Eight pieces of 32 columns side by side, read at a column: the column's head at the column inside the head. -/
theorem heads_apply {n : ℕ} (f : Fin 8 → ((⟨2, ![n, 32]⟩ : Shape).Idx → EReal))
    (hc : Shape.Concatenates ((List.ofFn fun h : Fin 8 => (⟨⟨2, ![n, 32]⟩, f h⟩ : (s : Shape) × (s.Idx → EReal))).map (·.1)) ⟨2, ![n, 256]⟩ 1)
    (i : Fin n) (c : Fin 256) :
    concatenate ⟨2, ![n, 256]⟩ 1 (List.ofFn fun h : Fin 8 => (⟨⟨2, ![n, 32]⟩, f h⟩ : (s : Shape) × (s.Idx → EReal))) hc (ix2 i c)
      = f (headOf c) (ix2 i (inHead c)) :=
  concatenate_ofFn_apply 1 f hc rfl 32 rfl (ix2 i c) (headOf c) rfl (ix2 i (inHead c)) rfl
    (fun b hb => match b with
      | ⟨0, _⟩ => rfl
      | ⟨1, _⟩ => absurd rfl hb)

/-- A stored attention block has one leading unit axis. -/
theorem shapeCast_row (C : FVec Ideal S512x256 .f32) (z : Fin 1) (i : Fin 512) (c : Fin 256) :
    shapeCast S1x512x256 C shapeCasts_S512x256_S1x512x256 (ix3 z i c) = C (ix2 i c) := by
  pointwise

/-- The attention the body stores, at an element. -/
theorem dense_store_apply (q k v : FVec Ideal S512x256 .f32) (z : Fin 1) (i : Fin 512) (c : Fin 256) :
    k0_pay1 k0_pay9 (k0_pay10 q k v) (k0_pay11 q k v) (k0_pay14 k0_pay9 (k0_pay12 v) (k0_pay13 q k) (Scalar.ofBits .f32 0xFF800000#32))
      (k0_pay15 q k v k0_pay9) (k0_pay19 (k0_pay16 v) (k0_pay17 q k k0_pay9) (k0_pay18 q k k0_pay9)) (k0_pay20 q k v k0_pay9)
      (k0_pay21 q k v k0_pay9) (k0_pay22 v) (k0_pay23 q k) (Scalar.ofBits .f32 0xFF800000#32) (ix3 z i c)
    = dense (headOf c) (fun i c => q (ix2 i c)) (fun i c => k (ix2 i c)) (fun i c => v (ix2 i c)) i (inHead c) := by
  rw [dense_concat]
  refine (shapeCast_row _ z i c).trans ?_
  exact (heads_apply _ _ i c).trans (headDense_apply _ q k v i _)

/-- The projected queries the body stores, at an element: the row of the input against the column of the weights, plus
    the bias. -/
theorem proj_q_apply (X : FVec Ideal S1x512x300 .f32) (W : FVec Ideal S300x256 .f32) (B : FVec Ideal S1x256 .f32) (i : Fin 512) (c : Fin 256) :
    k0_pay3 (F := Ideal) X W B (ix2 i c) = (∑ k : Fin 300, X (ix3 0 i k) * W (ix2 k c)) + B (ix2 0 c) := by
  pointwise [k0_pay3, k0_pay2]

/-- The projected keys likewise. -/
theorem proj_k_apply (X : FVec Ideal S1x512x300 .f32) (W : FVec Ideal S300x256 .f32) (B : FVec Ideal S1x256 .f32) (i : Fin 512) (c : Fin 256) :
    k0_pay4 (F := Ideal) X W B (ix2 i c) = (∑ k : Fin 300, X (ix3 0 i k) * W (ix2 k c)) + B (ix2 0 c) := by
  pointwise [k0_pay4, k0_pay2]

/-- The projected values likewise. -/
theorem proj_v_apply (X : FVec Ideal S1x512x300 .f32) (W : FVec Ideal S300x256 .f32) (B : FVec Ideal S1x256 .f32) (i : Fin 512) (c : Fin 256) :
    k0_pay5 (F := Ideal) X W B (ix2 i c) = (∑ k : Fin 300, X (ix3 0 i k) * W (ix2 k c)) + B (ix2 0 c) := by
  pointwise [k0_pay5, k0_pay2]

/-- The scores the second region's body stores, at an element: the query row against the memory key row. -/
theorem score_apply (Q : FVec Ideal S1x512x256 .f32) (M : FVec Ideal S4096x256 .f32) (z : Fin 1) (i : Fin 512) (r : Fin 4096) :
    k1_pay1 (F := Ideal) Q M (ix3 z i r) = ∑ k : Fin 256, Q (ix3 0 i k) * M (ix2 r k) := by
  pointwise [k1_pay1]

end Cert.Proof
-- ==== Proof.Ext.lean ====
module

public import proofs.«01_k».proof.Proof.Dense

/-! What the third kernel region's body stores, element by element: the eight heads' attention over the remembered
    positions, mixed with the causal attention by the gate, through the output projection. -/

@[expose] public section

noncomputable section

namespace Cert.Proof

open Idealize.ShloMosaic Cert.KernelIdeal Cert.KernelIdeal.Gen

/-- One head's attention over the remembered positions, in the kernel's own vector operations: `off` is where the
    head's 32 columns begin. -/
def headMem (off : Fin 2 → ℕ) (off3 : Fin 3 → ℕ) (hs : S256x256.Slices off S256x32) (hs3 : S256x32x256.Slices off3 S256x32x32)
    (q : FVec Ideal S256x256 .f32) (ke ve : FVec Ideal S256x32x256 .f32) : FVec Ideal S256x32 .f32 :=
  let s : FVec Ideal S256x32 .f32 := mulf (multiReduction .add [2] S256x32
      (mulf (broadcastTo S256x32x32 (shapeCast S256x1x32 (extractStridedSlice S256x32 off q hs) shapeCasts_S256x32_S256x1x32) broadcasts_S256x1x32_S256x32x32)
        (extractStridedSlice S256x32x32 off3 ke hs3)) 0x00000000#32 reduces_S256x32x32_S256x32 (.inl rfl) rfl)
    (broadcast S256x32 (Scalar.ofBits .f32 0x3E3504F3#32))
  let e : FVec Ideal S256x32 .f32 := exp (subf s (broadcastTo S256x32 (shapeCast S256x1
    (multiReduction .maximumf [1] S256 s 0xFF800000#32 reduces_S256x32_S256 (.inl rfl) rfl) shapeCasts_S256_S256x1) broadcasts_S256x1_S256x32))
  let w : FVec Ideal S256x32 .f32 := divf e (broadcastTo S256x32 (shapeCast S256x1
    (multiReduction .add [1] S256 e 0x00000000#32 reduces_S256x32_S256 (.inl rfl) rfl) shapeCasts_S256_S256x1) broadcasts_S256x1_S256x32)
  multiReduction .add [1] S256x32
    (mulf (broadcastTo S256x32x32 (shapeCast S256x32x1 w shapeCasts_S256x32_S256x32x1) broadcasts_S256x32x1_S256x32x32)
      (extractStridedSlice S256x32x32 off3 ve hs3)) 0x00000000#32 reduces_S256x32x32_S256x32_2 (.inl rfl) rfl

/-- One head's mix of the causal attention `qd` and its attention `r` over the remembered positions, in the kernel's
    own vector operations. -/
def headMix (off : Fin 2 → ℕ) (offg : Fin 3 → ℕ) (hs : S256x256.Slices off S256x32) (hg : S8x1x1.Slices offg S1x1x1)
    (qd : FVec Ideal S256x256 .f32) (g : FVec Ideal S8x1x1 .f32) (r : FVec Ideal S256x32 .f32) : FVec Ideal S256x32 .f32 :=
  let gh : FVec Ideal S1x1 .f32 := shapeCast S1x1 (extractStridedSlice S1x1x1 offg g hg) shapeCasts_S1x1x1_S1x1
  addf (mulf (extractStridedSlice S256x32 off qd hs) (broadcastTo S256x32 gh broadcasts_S1x1_S256x32))
    (mulf r (broadcastTo S256x32 (subf (broadcast S1x1 (Scalar.ofBits .f32 0x3F800000#32)) gh) broadcasts_S1x1_S256x32))

/-- Every head's 32 columns are inside the 256. -/
theorem slices_rows (h : Fin 8) : S256x256.Slices ![0, h.val * 32] S256x32 := by
  revert h; decide

/-- Every head's 32 columns of the remembered positions are inside the 256. -/
theorem slices_mem (h : Fin 8) : S256x32x256.Slices ![0, 0, h.val * 32] S256x32x32 := by
  revert h; decide

/-- Every head has a gate. -/
theorem slices_gate (h : Fin 8) : S8x1x1.Slices ![h.val, 0, 0] S1x1x1 := by
  revert h; decide

/-- A head's attention over the remembered positions, at an element. -/
theorem headMem_apply (h : Fin 8) (q : FVec Ideal S256x256 .f32) (ke ve : FVec Ideal S256x32x256 .f32) (i : Fin 256) (d : Fin 32) :
    headMem ![0, h.val * 32] ![0, 0, h.val * 32] (slices_rows h) (slices_mem h) q ke ve (ix2 i d)
      = memAttn h (fun c => q (ix2 i c)) (fun t c => ke (ix3 i t c)) (fun t c => ve (ix3 i t c)) d := by
  pointwise [headMem]
  rfl

/-- A head's mix, at an element. -/
theorem headMix_apply (h : Fin 8) (qd : FVec Ideal S256x256 .f32) (g : FVec Ideal S8x1x1 .f32) (r : FVec Ideal S256x32 .f32) (i : Fin 256) (d : Fin 32) :
    headMix ![0, h.val * 32] ![h.val, 0, 0] (slices_rows h) (slices_gate h) qd g r (ix2 i d)
      = qd (ix2 i (col h d)) * g (ix3 h 0 0) + r (ix2 i d) * (1 - g (ix3 h 0 0)) := by
  pointwise [headMix]

/-- A head's columns of the mixed rows. -/
def headOut (q qd : FVec Ideal S256x256 .f32) (ke ve : FVec Ideal S256x32x256 .f32) (g : FVec Ideal S8x1x1 .f32) (h : Fin 8) : FVec Ideal S256x32 .f32 :=
  headMix ![0, h.val * 32] ![h.val, 0, 0] (slices_rows h) (slices_gate h) qd g
    (headMem ![0, h.val * 32] ![0, 0, h.val * 32] (slices_rows h) (slices_mem h) q ke ve)

/-- The block through the output projection, in the kernel's own vector operations. -/
def projOut (A : FVec Ideal S256x256 .f32) (W : FVec Ideal S256x300 .f32) (B : FVec Ideal S1x300 .f32) : FVec Ideal S1x256x300 .f32 :=
  shapeCast S1x256x300 (addf (matmul dot_S256x256_S256x300_S256x300_1_0_0_1_n_n none A W (constant S256x300 .f32 0x00000000#32))
    (broadcastTo S256x300 (shapeCast S1x300 B shapeCasts_S1x300_S1x300) broadcasts_S1x300_S256x300)) shapeCasts_S256x300_S1x256x300

/-- The output projection at an element. -/
theorem projOut_apply (A : FVec Ideal S256x256 .f32) (W : FVec Ideal S256x300 .f32) (B : FVec Ideal S1x300 .f32) (z : Fin 1) (i : Fin 256) (c : Fin 300) :
    projOut A W B (ix3 z i c) = (∑ j : Fin 256, A (ix2 i j) * W (ix2 j c)) + B (ix2 0 c) := by
  pointwise [projOut]

/-- The block the body stores: the eight heads' mixes side by side through the output projection. -/
theorem ext_concat (QD Q : FVec Ideal S1x256x256 .f32) (KE VE : FVec Ideal S1x256x32x256 .f32) (G : FVec Ideal S8x1x1 .f32) (W : FVec Ideal S256x300 .f32) (B : FVec Ideal S1x300 .f32) :
    k2_pay1 (k2_pay2 QD) (k2_pay6 G) (k2_pay11 (k2_pay7 Q KE VE) (k2_pay8 G) (k2_pay9 QD) (k2_pay10 G))
      (k2_pay12 (k2_pay2 QD) (k2_pay3 Q) (k2_pay4 KE) (k2_pay5 VE) (k2_pay6 G))
      (k2_pay16 (k2_pay2 QD) (k2_pay6 G) (k2_pay13 (k2_pay5 VE)) (k2_pay14 (k2_pay3 Q) (k2_pay4 KE)) (k2_pay15 (k2_pay3 Q) (k2_pay4 KE)))
      (k2_pay20 (k2_pay18 (k2_pay2 QD) (k2_pay6 G)) (k2_pay19 (k2_pay3 Q) (k2_pay4 KE) (k2_pay5 VE) (k2_pay6 G)))
      (k2_pay21 (k2_pay2 QD) (k2_pay3 Q) (k2_pay4 KE) (k2_pay5 VE) (k2_pay6 G))
      (k2_pay25 (k2_pay2 QD) (k2_pay6 G) (k2_pay22 (k2_pay5 VE)) (k2_pay23 (k2_pay3 Q) (k2_pay4 KE)) (k2_pay24 (k2_pay3 Q) (k2_pay4 KE)))
      (k2_pay26 (k2_pay2 QD) (k2_pay3 Q) (k2_pay4 KE) (k2_pay5 VE) (k2_pay6 G))
      (k2_pay27 (k2_pay4 KE)) (k2_pay28 (k2_pay5 VE)) (k2_pay29 (k2_pay3 Q)) W B
    = projOut (concatenate S256x256 1 (List.ofFn fun h : Fin 8 => ⟨S256x32, headOut (k2_pay3 Q) (k2_pay2 QD) (k2_pay4 KE) (k2_pay5 VE) (k2_pay6 G) h⟩)
        concatenates_S256x32_S256x32_S256x32_S256x32_S256x32_S256x32_S256x32_S256x32_S256x256_d1) W B := rfl

/-- The blocks' leading unit axis dropped: the rows. -/
theorem rows2_apply (X : FVec Ideal S1x256x256 .f32) (i : Fin 256) (c : Fin 256) : k2_pay2 (F := Ideal) X (ix2 i c) = X (ix3 0 i c) := by
  pointwise [k2_pay2]

/-- The blocks' leading unit axis dropped: the query rows. -/
theorem rows3_apply (X : FVec Ideal S1x256x256 .f32) (i : Fin 256) (c : Fin 256) : k2_pay3 (F := Ideal) X (ix2 i c) = X (ix3 0 i c) := by
  pointwise [k2_pay3]

/-- The blocks' leading unit axis dropped: the remembered keys. -/
theorem mem4_apply (X : FVec Ideal S1x256x32x256 .f32) (i : Fin 256) (t : Fin 32) (c : Fin 256) : k2_pay4 (F := Ideal) X (ix3 i t c) = X (ix4 0 i t c) := by
  pointwise [k2_pay4]

/-- The blocks' leading unit axis dropped: the remembered values. -/
theorem mem5_apply (X : FVec Ideal S1x256x32x256 .f32) (i : Fin 256) (t : Fin 32) (c : Fin 256) : k2_pay5 (F := Ideal) X (ix3 i t c) = X (ix4 0 i t c) := by
  pointwise [k2_pay5]

/-- The gate at an element. -/
theorem gate_apply (G : FVec Ideal S8x1x1 .f32) (h : Fin 8) : k2_pay6 (F := Ideal) G (ix3 h 0 0) = Ideal.logistic (G (ix3 h 0 0)) := by
  pointwise [k2_pay6]

/-- The block the body stores, at an element. -/
theorem ext_store_apply (QD Q : FVec Ideal S1x256x256 .f32) (KE VE : FVec Ideal S1x256x32x256 .f32) (G : FVec Ideal S8x1x1 .f32) (W : FVec Ideal S256x300 .f32) (B : FVec Ideal S1x300 .f32)
    (z : Fin 1) (i : Fin 256) (c : Fin 300) :
    projOut (concatenate S256x256 1 (List.ofFn fun h : Fin 8 => ⟨S256x32, headOut (k2_pay3 Q) (k2_pay2 QD) (k2_pay4 KE) (k2_pay5 VE) (k2_pay6 G) h⟩)
        concatenates_S256x32_S256x32_S256x32_S256x32_S256x32_S256x32_S256x32_S256x32_S256x256_d1) W B (ix3 z i c)
    = outRow (fun c => QD (ix3 0 i c)) (fun c => Q (ix3 0 i c)) (fun t c => KE (ix4 0 i t c)) (fun t c => VE (ix4 0 i t c))
        (fun h => G (ix3 h 0 0)) (fun j c => W (ix2 j c)) (fun c => B (ix2 0 c)) c := by
  refine (projOut_apply _ W B z i c).trans ?_
  unfold outRow
  congr 1
  refine Finset.sum_congr rfl fun j _ => ?_
  congr 1
  refine (heads_apply _ _ i j).trans ?_
  refine (headMix_apply _ _ _ _ i _).trans ?_
  rw [headMem_apply, gate_apply, rows2_apply]
  simp only [rows3_apply, mem4_apply, mem5_apply, col_headOf]
  rfl

end Cert.Proof
-- ==== Proof.Arrays.lean ====
module

public import proofs.«01_k».proof.Proof.Ext
public import proofs.«01_k».proof.Proof.Gen.KernelIdeal.Frame
public import Idealize.ShloMosaic.Lib.Pipeline.ValueKit

/-! The arrays the three regions leave, each element read off the arrays the region was given. -/

@[expose] public section

set_option maxRecDepth 16384

noncomputable section

namespace Cert.Proof

open Idealize.ShloMosaic Idealize.ShloMosaic.TcCoe Idealize.ShloMosaic.Tactic Idealize.SL Idealize.SL.RA
open Idealize.ShloMosaic.Pipeline Idealize.ShloMosaic.ValueKit
open Cert.KernelIdeal Cert.KernelIdeal.Gen

variable (V : (c : Dev nD) → (b : Ref sig .tc) → Buf (Elt Ideal) ((c : Thread nD τ).loc b)) (c : Dev nD)

/-- A projection of every batch row: the row of the input against the columns of the weights, plus the bias. -/
def projOf (X : S4x512x300.Idx → EReal) (W : S300x256.Idx → EReal) (B : S1x256.Idx → EReal) : S4x512x256.Idx → EReal :=
  fun y => (∑ k : Fin 300, X (ix3 (y 0) (y 1) k) * W (ix2 k (y 2))) + B (ix2 0 (y 2))

/-- The causal attention of every batch row, all heads. -/
def denseOf (Q K W : S4x512x256.Idx → EReal) : S4x512x256.Idx → EReal :=
  fun y => dense (headOf (y 2)) (fun i c => Q (ix3 (y 0) i c)) (fun i c => K (ix3 (y 0) i c)) (fun i c => W (ix3 (y 0) i c)) (y 1) (inHead (y 2))

/-- The score of every query row against every memory key. -/
def scoreOf (Q : S4x512x256.Idx → EReal) (M : S32768x256.Idx → EReal) : S4x512x32768.Idx → EReal :=
  fun y => ∑ k : Fin 256, Q (ix3 (y 0) (y 1) k) * M (ix2 (y 2) k)

/-- The layer's output rows, from the causal attention, the queries and the remembered keys and values. -/
def outOf (D Q : S4x512x256.Idx → EReal) (KE VE : S4x512x32x256.Idx → EReal) (G : S8x1x1.Idx → EReal) (W : S256x300.Idx → EReal)
    (B : S1x300.Idx → EReal) : S4x512x300.Idx → EReal :=
  fun y => outRow (fun c => D (ix3 (y 0) (y 1) c)) (fun c => Q (ix3 (y 0) (y 1) c)) (fun t c => KE (ix4 (y 0) (y 1) t c))
    (fun t c => VE (ix4 (y 0) (y 1) t c)) (fun h => G (ix3 h 0 0)) (fun j c => W (ix2 j c)) (fun c => B (ix2 0 c)) (y 2)

/-! ## The first region -/

/-- The batch row is the grid point; everything else of the input is one block. -/
theorem idx0_0 : ∀ t : Fin cfg0.N, win0_0.index t = ![(grid0.coords t 0).val, 0, 0] := (by decide +kernel : ∀ t : Fin grid0.N, _)
/-- One block holds the whole array. -/
theorem idx0_1 : ∀ t : Fin cfg0.N, win0_1.index t = ![0, 0] := (by decide +kernel : ∀ t : Fin grid0.N, _)
/-- One block holds the whole array. -/
theorem idx0_2 : ∀ t : Fin cfg0.N, win0_2.index t = ![0, 0] := (by decide +kernel : ∀ t : Fin grid0.N, _)
/-- One block holds the whole array. -/
theorem idx0_3 : ∀ t : Fin cfg0.N, win0_3.index t = ![0, 0] := (by decide +kernel : ∀ t : Fin grid0.N, _)
/-- One block holds the whole array. -/
theorem idx0_4 : ∀ t : Fin cfg0.N, win0_4.index t = ![0, 0] := (by decide +kernel : ∀ t : Fin grid0.N, _)
/-- One block holds the whole array. -/
theorem idx0_5 : ∀ t : Fin cfg0.N, win0_5.index t = ![0, 0] := (by decide +kernel : ∀ t : Fin grid0.N, _)
/-- One block holds the whole array. -/
theorem idx0_6 : ∀ t : Fin cfg0.N, win0_6.index t = ![0, 0] := (by decide +kernel : ∀ t : Fin grid0.N, _)
/-- The output's batch row is the grid point. -/
theorem idx0_7 : ∀ t : Fin cfg0.N, win0_7.index t = ![(grid0.coords t 0).val, 0, 0] := (by decide +kernel : ∀ t : Fin grid0.N, _)
/-- The output's batch row is the grid point. -/
theorem idx0_8 : ∀ t : Fin cfg0.N, win0_8.index t = ![(grid0.coords t 0).val, 0, 0] := (by decide +kernel : ∀ t : Fin grid0.N, _)
/-- The output's batch row is the grid point. -/
theorem idx0_9 : ∀ t : Fin cfg0.N, win0_9.index t = ![(grid0.coords t 0).val, 0, 0] := (by decide +kernel : ∀ t : Fin grid0.N, _)
/-- The output's batch row is the grid point. -/
theorem idx0_10 : ∀ t : Fin cfg0.N, win0_10.index t = ![(grid0.coords t 0).val, 0, 0] := (by decide +kernel : ∀ t : Fin grid0.N, _)

/-- The input's block is its batch row. -/
theorem blk0_0 (t : Fin cfg0.N) (z : Fin 1) (i : Fin 512) (k : Fin 300) :
    (iblk0 V c 0 t : S1x512x300.Idx → EReal) (ix3 z i k) = (V c main_arg0 : S4x512x300.Idx → EReal) (ix3 (grid0.coords t 0) i k) := by
  blk_simp [iblk0]
  refine congrArg (V c main_arg0) ?_
  blk_ext [idx0_0]

/-- The weights of the queries in one block. -/
theorem blk0_1 (t : Fin cfg0.N) (k : Fin 300) (j : Fin 256) :
    (iblk0 V c 1 t : S300x256.Idx → EReal) (ix2 k j) = (V c main_arg1 : S300x256.Idx → EReal) (ix2 k j) := by
  blk_simp [iblk0]
  refine congrArg (V c main_arg1) ?_
  blk_ext [idx0_1]

/-- The bias of the queries in one block. -/
theorem blk0_2 (t : Fin cfg0.N) (k : Fin 1) (j : Fin 256) :
    (iblk0 V c 2 t : S1x256.Idx → EReal) (ix2 k j) = (V c main_v0 : S1x256.Idx → EReal) (ix2 k j) := by
  blk_simp [iblk0]
  refine congrArg (V c main_v0) ?_
  blk_ext [idx0_2]

/-- The weights of the keys in one block. -/
theorem blk0_3 (t : Fin cfg0.N) (k : Fin 300) (j : Fin 256) :
    (iblk0 V c 3 t : S300x256.Idx → EReal) (ix2 k j) = (V c main_arg3 : S300x256.Idx → EReal) (ix2 k j) := by
  blk_simp [iblk0]
  refine congrArg (V c main_arg3) ?_
  blk_ext [idx0_3]

/-- The bias of the keys in one block. -/
theorem blk0_4 (t : Fin cfg0.N) (k : Fin 1) (j : Fin 256) :
    (iblk0 V c 4 t : S1x256.Idx → EReal) (ix2 k j) = (V c main_v1 : S1x256.Idx → EReal) (ix2 k j) := by
  blk_simp [iblk0]
  refine congrArg (V c main_v1) ?_
  blk_ext [idx0_4]

/-- The weights of the values in one block. -/
theorem blk0_5 (t : Fin cfg0.N) (k : Fin 300) (j : Fin 256) :
    (iblk0 V c 5 t : S300x256.Idx → EReal) (ix2 k j) = (V c main_arg5 : S300x256.Idx → EReal) (ix2 k j) := by
  blk_simp [iblk0]
  refine congrArg (V c main_arg5) ?_
  blk_ext [idx0_5]

/-- The bias of the values in one block. -/
theorem blk0_6 (t : Fin cfg0.N) (k : Fin 1) (j : Fin 256) :
    (iblk0 V c 6 t : S1x256.Idx → EReal) (ix2 k j) = (V c main_v2 : S1x256.Idx → EReal) (ix2 k j) := by
  blk_simp [iblk0]
  refine congrArg (V c main_v2) ?_
  blk_ext [idx0_6]

/-- Where the block of output 1 lies in its array. -/
theorem emb0_7 (t : Fin cfg0.N) (z : Fin 1) (i : Fin 512) (j : Fin 256) :
    ((cfg0.win 7).blk t).view.emb (ix3 z i j) = (ix3 (grid0.coords t 0) i j : S4x512x256.Idx) := by
  blk_ext [idx0_7]

/-- Where the block of output 2 lies in its array. -/
theorem emb0_8 (t : Fin cfg0.N) (z : Fin 1) (i : Fin 512) (j : Fin 256) :
    ((cfg0.win 8).blk t).view.emb (ix3 z i j) = (ix3 (grid0.coords t 0) i j : S4x512x256.Idx) := by
  blk_ext [idx0_8]

/-- Where the block of output 3 lies in its array. -/
theorem emb0_9 (t : Fin cfg0.N) (z : Fin 1) (i : Fin 512) (j : Fin 256) :
    ((cfg0.win 9).blk t).view.emb (ix3 z i j) = (ix3 (grid0.coords t 0) i j : S4x512x256.Idx) := by
  blk_ext [idx0_9]

/-- Where the block of output 4 lies in its array. -/
theorem emb0_10 (t : Fin cfg0.N) (z : Fin 1) (i : Fin 512) (j : Fin 256) :
    ((cfg0.win 10).blk t).view.emb (ix3 z i j) = (ix3 (grid0.coords t 0) i j : S4x512x256.Idx) := by
  blk_ext [idx0_10]

/-- The queries of one batch row, read off the region's arrays. -/
theorem row_q (t : Fin cfg0.N) (i : Fin 512) (j : Fin 256) :
    k0_pay3 (F := Ideal) (iblk0 V c 0 t) (iblk0 V c 1 t) (iblk0 V c 2 t) (ix2 i j)
      = projOf (V c main_arg0) (V c main_arg1) (V c main_v0) (ix3 (grid0.coords t 0) i j) := by
  refine (proj_q_apply _ _ _ i j).trans ?_
  refine congrArg₂ (· + ·) (Finset.sum_congr rfl fun k _ => congrArg₂ (· * ·) (blk0_0 V c t 0 i k) (blk0_1 V c t k j)) (blk0_2 V c t 0 j)

/-- The array of the queries after the first region. -/
theorem arr_q : (dat0 V c).arrAt 7 cfg0.N = projOf (V c main_arg0) (V c main_arg1) (V c main_v0) := by
  refine (dat0 V c).arrAt_eq_of_covers 7 _ (by decide +kernel) fun t hf y => ?_
  obtain ⟨z, i, j, rfl⟩ : ∃ (z : Fin 1) (i : Fin 512) (j : Fin 256), y = ix3 z i j := ⟨y 0, y 1, y 2, eq_ix3 y⟩
  rw [emb0_7]
  blk_simp
  rw [after0_7]
  frame_out
  exact (shapeCast_row _ z i j).trans (row_q V c t i j)

/-- The keys of one batch row, read off the region's arrays. -/
theorem row_k (t : Fin cfg0.N) (i : Fin 512) (j : Fin 256) :
    k0_pay4 (F := Ideal) (iblk0 V c 0 t) (iblk0 V c 3 t) (iblk0 V c 4 t) (ix2 i j)
      = projOf (V c main_arg0) (V c main_arg3) (V c main_v1) (ix3 (grid0.coords t 0) i j) := by
  refine (proj_k_apply _ _ _ i j).trans ?_
  refine congrArg₂ (· + ·) (Finset.sum_congr rfl fun k _ => congrArg₂ (· * ·) (blk0_0 V c t 0 i k) (blk0_3 V c t k j)) (blk0_4 V c t 0 j)

/-- The array of the keys after the first region. -/
theorem arr_k : (dat0 V c).arrAt 8 cfg0.N = projOf (V c main_arg0) (V c main_arg3) (V c main_v1) := by
  refine (dat0 V c).arrAt_eq_of_covers 8 _ (by decide +kernel) fun t hf y => ?_
  obtain ⟨z, i, j, rfl⟩ : ∃ (z : Fin 1) (i : Fin 512) (j : Fin 256), y = ix3 z i j := ⟨y 0, y 1, y 2, eq_ix3 y⟩
  rw [emb0_8]
  blk_simp
  rw [after0_8]
  frame_out
  exact (shapeCast_row _ z i j).trans (row_k V c t i j)

/-- The values of one batch row, read off the region's arrays. -/
theorem row_v (t : Fin cfg0.N) (i : Fin 512) (j : Fin 256) :
    k0_pay5 (F := Ideal) (iblk0 V c 0 t) (iblk0 V c 5 t) (iblk0 V c 6 t) (ix2 i j)
      = projOf (V c main_arg0) (V c main_arg5) (V c main_v2) (ix3 (grid0.coords t 0) i j) := by
  refine (proj_v_apply _ _ _ i j).trans ?_
  refine congrArg₂ (· + ·) (Finset.sum_congr rfl fun k _ => congrArg₂ (· * ·) (blk0_0 V c t 0 i k) (blk0_5 V c t k j)) (blk0_6 V c t 0 j)

/-- The array of the values after the first region. -/
theorem arr_v : (dat0 V c).arrAt 9 cfg0.N = projOf (V c main_arg0) (V c main_arg5) (V c main_v2) := by
  refine (dat0 V c).arrAt_eq_of_covers 9 _ (by decide +kernel) fun t hf y => ?_
  obtain ⟨z, i, j, rfl⟩ : ∃ (z : Fin 1) (i : Fin 512) (j : Fin 256), y = ix3 z i j := ⟨y 0, y 1, y 2, eq_ix3 y⟩
  rw [emb0_9]
  blk_simp
  rw [after0_9]
  frame_out
  exact (shapeCast_row _ z i j).trans (row_v V c t i j)

/-- The array of the causal attention after the first region. -/
theorem arr_dense : (dat0 V c).arrAt 10 cfg0.N = denseOf (projOf (V c main_arg0) (V c main_arg1) (V c main_v0))
    (projOf (V c main_arg0) (V c main_arg3) (V c main_v1)) (projOf (V c main_arg0) (V c main_arg5) (V c main_v2)) := by
  refine (dat0 V c).arrAt_eq_of_covers 10 _ (by decide +kernel) fun t hf y => ?_
  obtain ⟨z, i, j, rfl⟩ : ∃ (z : Fin 1) (i : Fin 512) (j : Fin 256), y = ix3 z i j := ⟨y 0, y 1, y 2, eq_ix3 y⟩
  rw [emb0_10]
  blk_simp
  rw [after0_10]
  frame_out
  refine (dense_store_apply _ _ _ z i j).trans ?_
  unfold k0_pay24 k0_pay25 k0_pay26
  frame_out
  simp only [row_q, row_k, row_v]
  rfl

/-! ## The second region -/

/-- The queries' batch row is the first grid coordinate. -/
theorem idx1_0 : ∀ t : Fin cfg1.N, win1_0.index t = ![(grid1.coords t 0).val, 0, 0] := (by decide +kernel : ∀ t : Fin grid1.N, _)
/-- The block of memory keys is the second grid coordinate. -/
theorem idx1_1 : ∀ t : Fin cfg1.N, win1_1.index t = ![(grid1.coords t 1).val, 0] := (by decide +kernel : ∀ t : Fin grid1.N, _)
/-- The scores' block: the batch row and the block of memory keys. -/
theorem idx1_2 : ∀ t : Fin cfg1.N, win1_2.index t = ![(grid1.coords t 0).val, 0, (grid1.coords t 1).val] := (by decide +kernel : ∀ t : Fin grid1.N, _)

/-- The memory key (or score column) a grid point's block holds at `r`. -/
def memCol (t : Fin cfg1.N) (r : Fin 4096) : Fin 32768 := ⟨(grid1.coords t 1).val * 4096 + r.val, by
  have : (grid1.coords t 1).val < 8 := (grid1.coords t 1).isLt
  omega⟩

/-- The queries' block is their batch row. -/
theorem blk1_0 (t : Fin cfg1.N) (z : Fin 1) (i : Fin 512) (k : Fin 256) :
    (iblk1 V c 0 t : S1x512x256.Idx → EReal) (ix3 z i k) = (V c main_v4_0 : S4x512x256.Idx → EReal) (ix3 (grid1.coords t 0) i k) := by
  blk_simp [iblk1]
  refine congrArg (V c main_v4_0) ?_
  blk_ext [idx1_0]

/-- The memory keys' block: 4096 of them. -/
theorem blk1_1 (t : Fin cfg1.N) (r : Fin 4096) (k : Fin 256) :
    (iblk1 V c 1 t : S4096x256.Idx → EReal) (ix2 r k) = (V c main_arg10 : S32768x256.Idx → EReal) (ix2 (memCol t r) k) := by
  blk_simp [iblk1]
  refine congrArg (V c main_arg10) ?_
  blk_ext [idx1_1, memCol]

/-- Where the scores' block lies in its array. -/
theorem emb1_2 (t : Fin cfg1.N) (z : Fin 1) (i : Fin 512) (r : Fin 4096) :
    ((cfg1.win 2).blk t).view.emb (ix3 z i r) = (ix3 (grid1.coords t 0) i (memCol t r) : S4x512x32768.Idx) := by
  blk_ext [idx1_2, memCol]

/-- The array of the scores after the second region. -/
theorem arr_scores : (dat1 V c).arrAt 2 cfg1.N = scoreOf (V c main_v4_0) (V c main_arg10) := by
  refine (dat1 V c).arrAt_eq_of_covers 2 _ (by decide +kernel) fun t hf y => ?_
  obtain ⟨z, i, r, rfl⟩ : ∃ (z : Fin 1) (i : Fin 512) (r : Fin 4096), y = ix3 z i r := ⟨y 0, y 1, y 2, eq_ix3 y⟩
  rw [emb1_2]
  blk_simp
  rw [after1_2]
  frame_out
  refine (score_apply _ _ z i r).trans ?_
  exact Finset.sum_congr rfl fun k _ => congrArg₂ (· * ·) (blk1_0 V c t 0 i k) (blk1_1 V c t r k)

/-! ## The third region -/

/-- The causal attention's block: the batch row and the half of the positions. -/
theorem idx2_0 : ∀ t : Fin cfg2.N, win2_0.index t = ![(grid2.coords t 0).val, (grid2.coords t 1).val, 0] := (by decide +kernel : ∀ t : Fin grid2.N, _)
/-- The queries' block likewise. -/
theorem idx2_1 : ∀ t : Fin cfg2.N, win2_1.index t = ![(grid2.coords t 0).val, (grid2.coords t 1).val, 0] := (by decide +kernel : ∀ t : Fin grid2.N, _)
/-- The remembered keys' block likewise. -/
theorem idx2_2 : ∀ t : Fin cfg2.N, win2_2.index t = ![(grid2.coords t 0).val, (grid2.coords t 1).val, 0, 0] := (by decide +kernel : ∀ t : Fin grid2.N, _)
/-- The remembered values' block likewise. -/
theorem idx2_3 : ∀ t : Fin cfg2.N, win2_3.index t = ![(grid2.coords t 0).val, (grid2.coords t 1).val, 0, 0] := (by decide +kernel : ∀ t : Fin grid2.N, _)
/-- One block holds the gates. -/
theorem idx2_4 : ∀ t : Fin cfg2.N, win2_4.index t = ![0, 0, 0] := (by decide +kernel : ∀ t : Fin grid2.N, _)
/-- One block holds the output weights. -/
theorem idx2_5 : ∀ t : Fin cfg2.N, win2_5.index t = ![0, 0] := (by decide +kernel : ∀ t : Fin grid2.N, _)
/-- One block holds the output bias. -/
theorem idx2_6 : ∀ t : Fin cfg2.N, win2_6.index t = ![0, 0] := (by decide +kernel : ∀ t : Fin grid2.N, _)
/-- The output's block: the batch row and the half of the positions. -/
theorem idx2_7 : ∀ t : Fin cfg2.N, win2_7.index t = ![(grid2.coords t 0).val, (grid2.coords t 1).val, 0] := (by decide +kernel : ∀ t : Fin grid2.N, _)

/-- The position a grid point's block holds at `i`. -/
def posAt (t : Fin cfg2.N) (i : Fin 256) : Fin 512 := ⟨(grid2.coords t 1).val * 256 + i.val, by
  have : (grid2.coords t 1).val < 2 := (grid2.coords t 1).isLt
  omega⟩

/-- The causal attention's block: 256 positions of one batch row. -/
theorem blk2_0 (t : Fin cfg2.N) (z : Fin 1) (i : Fin 256) (j : Fin 256) :
    (iblk2 V c 0 t : S1x256x256.Idx → EReal) (ix3 z i j) = (V c main_v4_3 : S4x512x256.Idx → EReal) (ix3 (grid2.coords t 0) (posAt t i) j) := by
  blk_simp [iblk2]
  refine congrArg (V c main_v4_3) ?_
  blk_ext [idx2_0, posAt]

/-- The queries' block likewise. -/
theorem blk2_1 (t : Fin cfg2.N) (z : Fin 1) (i : Fin 256) (j : Fin 256) :
    (iblk2 V c 1 t : S1x256x256.Idx → EReal) (ix3 z i j) = (V c main_v4_0 : S4x512x256.Idx → EReal) (ix3 (grid2.coords t 0) (posAt t i) j) := by
  blk_simp [iblk2]
  refine congrArg (V c main_v4_0) ?_
  blk_ext [idx2_1, posAt]

/-- The remembered keys' block: the keys of the same positions. -/
theorem blk2_2 (t : Fin cfg2.N) (z : Fin 1) (i : Fin 256) (r : Fin 32) (j : Fin 256) :
    (iblk2 V c 2 t : S1x256x32x256.Idx → EReal) (ix4 z i r j) = (V c main_v6 : S4x512x32x256.Idx → EReal) (ix4 (grid2.coords t 0) (posAt t i) r j) := by
  blk_simp [iblk2]
  refine congrArg (V c main_v6) ?_
  blk_ext [idx2_2, posAt]

/-- The remembered values' block likewise. -/
theorem blk2_3 (t : Fin cfg2.N) (z : Fin 1) (i : Fin 256) (r : Fin 32) (j : Fin 256) :
    (iblk2 V c 3 t : S1x256x32x256.Idx → EReal) (ix4 z i r j) = (V c main_v7 : S4x512x32x256.Idx → EReal) (ix4 (grid2.coords t 0) (posAt t i) r j) := by
  blk_simp [iblk2]
  refine congrArg (V c main_v7) ?_
  blk_ext [idx2_3, posAt]

/-- The gates in one block. -/
theorem blk2_4 (t : Fin cfg2.N) (h : Fin 8) :
    (iblk2 V c 4 t : S8x1x1.Idx → EReal) (ix3 h 0 0) = (V c main_arg9 : S8x1x1.Idx → EReal) (ix3 h 0 0) := by
  blk_simp [iblk2]
  refine congrArg (V c main_arg9) ?_
  blk_ext [idx2_4]

/-- The output weights in one block. -/
theorem blk2_5 (t : Fin cfg2.N) (k : Fin 256) (j : Fin 300) :
    (iblk2 V c 5 t : S256x300.Idx → EReal) (ix2 k j) = (V c main_arg7 : S256x300.Idx → EReal) (ix2 k j) := by
  blk_simp [iblk2]
  refine congrArg (V c main_arg7) ?_
  blk_ext [idx2_5]

/-- The output bias in one block. -/
theorem blk2_6 (t : Fin cfg2.N) (k : Fin 1) (j : Fin 300) :
    (iblk2 V c 6 t : S1x300.Idx → EReal) (ix2 k j) = (V c main_v3 : S1x300.Idx → EReal) (ix2 k j) := by
  blk_simp [iblk2]
  refine congrArg (V c main_v3) ?_
  blk_ext [idx2_6]

/-- Where the output's block lies in its array. -/
theorem emb2_7 (t : Fin cfg2.N) (z : Fin 1) (i : Fin 256) (j : Fin 300) :
    ((cfg2.win 7).blk t).view.emb (ix3 z i j) = (ix3 (grid2.coords t 0) (posAt t i) j : S4x512x300.Idx) := by
  blk_ext [idx2_7, posAt]

/-- The array of the output after the third region. -/
theorem arr_out : (dat2 V c).arrAt 7 cfg2.N = outOf (V c main_v4_3) (V c main_v4_0) (V c main_v6) (V c main_v7) (V c main_arg9)
    (V c main_arg7) (V c main_v3) := by
  refine (dat2 V c).arrAt_eq_of_covers 7 _ (by decide +kernel) fun t hf y => ?_
  obtain ⟨z, i, j, rfl⟩ : ∃ (z : Fin 1) (i : Fin 256) (j : Fin 300), y = ix3 z i j := ⟨y 0, y 1, y 2, eq_ix3 y⟩
  rw [emb2_7]
  blk_simp
  rw [after2_7]
  frame_out
  unfold k2_pay34 k2_pay33 k2_pay32 k2_pay31 k2_pay30
  frame_out
  refine (congrFun (ext_concat _ _ _ _ _ _ _) _).trans ((ext_store_apply _ _ _ _ _ _ _ z i j).trans ?_)
  simp only [blk2_0, blk2_1, blk2_2, blk2_3, blk2_4, blk2_5, blk2_6]
  rfl

end Cert.Proof
-- ==== Proof.Host.lean ====
module

public import proofs.«01_k».proof.Proof.Arrays
public import Idealize.ShloMosaic.Lib.StableHlo.RunRead

/-! The host operations between the regions: the biases' reshape, the choice of the best-scored memories, their rows
    taken from the stores, and the stack of the keys and values; and with them what the launch leaves in its results. -/

@[expose] public section

set_option maxRecDepth 16384

noncomputable section

namespace Cert.Proof

open Idealize.ShloMosaic Idealize.ShloMosaic.TcCoe Idealize.ShloMosaic.Tactic Idealize.SL Idealize.SL.RA
open Cert.KernelIdeal Cert.KernelIdeal.Gen

/-- The indices with a negative one counted from the end, as a column. -/
def takeIdx (I : IVec S4x512x32 32) : IVec S4x512x32x1 32 :=
  broadcastInDim S4x512x32x1 ![0, 1, 2] bcast_S4x512x32_S4x512x32x1_0_1_2
    (select (cmpi .slt I (broadcastInDim S4x512x32 ![] bcast_S_S4x512x32 (constantI S_ 32 0#32)))
      (addi I (broadcastInDim S4x512x32 ![] bcast_S_S4x512x32 (constantI S_ 32 32768#32))) I)

/-- Whether every index of a column lies in the store. -/
def takeOk (J : IVec S4x512x32x1 32) : IVec S4x512x32 1 :=
  Host.reduce IntOp.andi
    (andi (cmpi .sge J (broadcastInDim S4x512x32x1 ![] bcast_S_S4x512x32x1 (constantI S_ 32 0#32)))
      (cmpi .sle J (broadcastInDim S4x512x32x1 ![0, 1, 2, 3] bcast_S1x1x1x1_S4x512x32x1_0_1_2_3
        (broadcastInDim S1x1x1x1 ![3] bcast_S1_S1x1x1x1_3 (constantI S1 32 32767#32)))))
    (constantI S_ 1 1#1) reducesTo_S4x512x32x1_S4x512x32_d3 h_S_

/-- The rows of the store `M` at the indices `I`. -/
def takeOf (M : FVec Ideal S32768x256 .f32) (I : IVec S4x512x32 32) : FVec Ideal S4x512x32x256 .f32 :=
  select (broadcastInDim S4x512x32x256 ![0, 1, 2] bcast_S4x512x32_S4x512x32x256_0_1_2 (takeOk (takeIdx I)))
    (Host.gather gather_S32768x256_S4x512x32x1_S4x512x32x256_3_0_n_n_0_3_1256 M (takeIdx I))
    (broadcastInDim S4x512x32x256 ![] bcast_S_S4x512x32x256 (constant S_ .f32 0x7FC00000#32))

/-- The indices of the 32 best scores of every position. -/
def bestOf (S : FVec Ideal S4x512x32768 .f32) : IVec S4x512x32 32 :=
  (Host.topK S4x512x32 2 (FloatOps.cmpfTotal .gt) S sliceFits_S4x512x32768_S4x512x32).2

/-- The keys and the values of every position, stacked. -/
def stackOf (K V : FVec Ideal S4x512x256 .f32) : FVec Ideal S4x512x2x256 .f32 :=
  concatenate S4x512x2x256 2
    [⟨S4x512x1x256, broadcastInDim S4x512x1x256 ![0, 1, 3] bcast_S4x512x256_S4x512x1x256_0_1_3 K⟩,
     ⟨S4x512x1x256, broadcastInDim S4x512x1x256 ![0, 1, 3] bcast_S4x512x256_S4x512x1x256_0_1_3 V⟩]
    concatenates_S4x512x1x256_S4x512x1x256_S4x512x2x256_d2

variable (m : (ℓ : Loc nD τ sig) → Buf (Elt Ideal) ℓ) (ρ : Dev nD → PrngReg) (c : Dev nD)

/-- The query bias as a row. -/
theorem W1_v0 : W1 m ρ c (Proc.devRef .tc main_v0) = shapeCast S1x256 (W0 m ρ c (Proc.devRef .tc main_arg2)) shapeCasts_S256_S1x256 := by
  unfold_abbrev_sides
  after_reads_simp
  rfl

/-- The key bias as a row. -/
theorem W1_v1 : W1 m ρ c (Proc.devRef .tc main_v1) = shapeCast S1x256 (W0 m ρ c (Proc.devRef .tc main_arg4)) shapeCasts_S256_S1x256 := by
  unfold_abbrev_sides
  after_reads_simp
  rfl

/-- The value bias as a row. -/
theorem W1_v2 : W1 m ρ c (Proc.devRef .tc main_v2) = shapeCast S1x256 (W0 m ρ c (Proc.devRef .tc main_arg6)) shapeCasts_S256_S1x256 := by
  unfold_abbrev_sides
  after_reads_simp
  rfl

/-- The output bias as a row. -/
theorem W1_v3 : W1 m ρ c (Proc.devRef .tc main_v3) = shapeCast S1x300 (W0 m ρ c (Proc.devRef .tc main_arg8)) shapeCasts_S300_S1x300 := by
  unfold_abbrev_sides
  after_reads_simp
  rfl

/-- The indices chosen from the scores. -/
theorem W4_indices : W4 m ρ c (Proc.devRef .tc main_indices) = bestOf (W3 m ρ c (Proc.devRef .tc main_v5)) := by
  unfold_abbrev_sides
  after_reads_simp
  rfl

/-- The remembered keys. -/
theorem W5_v6 : W5 m ρ c (Proc.devRef .tc main_v6) = takeOf (W4 m ρ c (Proc.devRef .tc main_arg10)) (W4 m ρ c (Proc.devRef .tc main_indices)) := by
  show StableHlo.after hostOps2_1 (W4 m ρ c) _ = _
  generalize W4 m ρ c = X
  after_reads_simp
  simp only [StableHlo.TRef.ofBuf, StableHlo.TRef.toBuf, cast_eq]
  rfl

/-- The remembered values. -/
theorem W6_v7 : W6 m ρ c (Proc.devRef .tc main_v7) = takeOf (W5 m ρ c (Proc.devRef .tc main_arg11)) (W5 m ρ c (Proc.devRef .tc main_indices)) := by
  show StableHlo.after hostOps2_2 (W5 m ρ c) _ = _
  generalize W5 m ρ c = X
  after_reads_simp
  simp only [StableHlo.TRef.ofBuf, StableHlo.TRef.toBuf, cast_eq]
  rfl

/-- The stacked result. -/
theorem W8_v11 : W8 m ρ c (Proc.devRef .tc main_v11) = stackOf (W7 m ρ c (Proc.devRef .tc main_v4_1)) (W7 m ρ c (Proc.devRef .tc main_v4_2)) := by
  show StableHlo.after hostOps3 (W7 m ρ c) _ = _
  generalize W7 m ρ c = X
  after_reads_simp
  rfl

end Cert.Proof
-- ==== Proof.RefDense.lean ====
module

public import proofs.«01_k».proof.Proof.Spec
public import proofs.«01_k».proof.Proof.Gen.ReferenceIdeal.Read
public import Idealize.ShloMosaic.Lib.WordCmp

/-! The reference's causal attention, read element by element as the functions of `Spec`. -/

@[expose] public section

noncomputable section

namespace Cert.Proof

open Idealize.ShloMosaic Cert.ReferenceIdeal Cert.ReferenceIdeal.Read Cert.ReferenceIdeal.Gen

variable (x0 : FVec Ideal S4x512x300 .f32) (x1 x3 x5 : FVec Ideal S300x256 .f32) (x2 x4 x6 : FVec Ideal S256 .f32)

/-- The reference's mask: it starts from all ones and clears what is on or below the diagonal. -/
theorem ref_mask (i x : Fin 512) : val_main_v22 (F := Ideal) (ix2 i x) = BitVec.ofBool (decide (i < x)) := by
  pointwise [val_main_v22, val_main_call0_v5, val_main_call0_c_0, val_main_call0_v4, val_main_call0_v3, val_main_call0_v2,
    val_main_call0_v1, val_main_call0_c, val_main_call0_v0, val_main_v21, val_main_c]
  rw [show IntOp.addi (BitVec.ofNat 32 i.val) 0#32 = BitVec.ofNat 32 i.val from BitVec.add_zero _,
    WordCmp.cmpi_sge_ofNat (by omega) (by omega)]
  by_cases hx : i < x
  · simp [hx, show ¬ x.val ≤ i.val by omega, WordCmp.select_zero]
  · simp [hx, show x.val ≤ i.val by omega, WordCmp.select_one]

/-- The reference's masked logits. -/
theorem ref_logit (b : Fin 4) (h : Fin 8) (i x : Fin 512) :
    val_main_v23 (F := Ideal) x0 x1 x2 x3 x4 (ix4 b h i x)
      = logit h (fun i c => val_main_v3 (F := Ideal) x0 x1 x2 (ix3 b i c)) (fun i c => val_main_v9 (F := Ideal) x0 x3 x4 (ix3 b i c)) i x := by
  have hm := ref_mask i x
  revert hm
  unfold val_main_v23 val_main_call1_v2 val_main_call1_v1 val_main_call1_v0 val_main_cst_0
  generalize val_main_v22 (F := Ideal) = M
  unfold val_main_v20 val_main_v19 val_main_cst val_main_v18 val_main_v11 val_main_v10 val_main_v5 val_main_v4
  generalize val_main_v3 (F := Ideal) x0 x1 x2 = Q
  generalize val_main_v9 (F := Ideal) x0 x3 x4 = K
  intro hm
  pointwise [logit, id]
  rw [hm]
  exact select_decide _ _ _

/-- The reference's greatest logit of a row. -/
theorem ref_max (b : Fin 4) (h : Fin 8) (i : Fin 512) :
    val_main_v24 (F := Ideal) x0 x1 x2 x3 x4 (ix3 b h i) = rowMax fun x => val_main_v23 (F := Ideal) x0 x1 x2 x3 x4 (ix4 b h i x) := by
  unfold val_main_v24
  generalize val_main_v23 (F := Ideal) x0 x1 x2 x3 x4 = y0
  rw [Host.reduce_eq_fold_single _ _ _ reducesTo_S4x8x512x512_S4x8x512_d3 (by decide) h_S_]
  unfold rowMax
  refine Finset.fold_congr fun k _ => ?_
  exact congrArg y0 (funext fun a => Fin.ext (by match a with | ⟨0, _⟩ => rfl | ⟨1, _⟩ => rfl | ⟨2, _⟩ => rfl | ⟨3, _⟩ => rfl))

/-- The reference's exponentials, from the row of logits `l`. -/
theorem ref_exp (b : Fin 4) (h : Fin 8) (i x : Fin 512) (l : Fin 512 → EReal)
    (hl : ∀ x, val_main_v23 (F := Ideal) x0 x1 x2 x3 x4 (ix4 b h i x) = l x) :
    val_main_v30 (F := Ideal) x0 x1 x2 x3 x4 (ix4 b h i x) = Ideal.exp (l x - rowMax l) := by
  rw [val_main_v30_apply, val_main_v29_apply, val_main_v28_apply, val_main_v27_apply, val_main_v26_apply, val_main_v25_apply, val_main_cst_2_apply]
  rw [show idx_main_v27 (idx_main_v28 (ix4 b h i x)) = ix3 b h i from
    funext fun a => Fin.ext (by match a with | ⟨0, _⟩ => rfl | ⟨1, _⟩ => rfl | ⟨2, _⟩ => rfl)]
  rw [ref_max, hl, show (FloatOps.ofBits .f32 0xFF800000#32 : Ideal .f32) = (⊥ : EReal) from masked_eq]
  simp only [hl, Ideal.maximumf_def, Ideal.hostUnary_exp_def, Ideal.subf_def, max_bot_left]

/-- The reference's attention weights are the softmax of the row. -/
theorem ref_softmax (b : Fin 4) (h : Fin 8) (i x : Fin 512) (l : Fin 512 → EReal)
    (hl : ∀ x, val_main_v23 (F := Ideal) x0 x1 x2 x3 x4 (ix4 b h i x) = l x) :
    val_main_v34 (F := Ideal) x0 x1 x2 x3 x4 (ix4 b h i x) = softmax l x := by
  rw [val_main_v34_apply, val_main_v33_apply, val_main_v32_apply, ref_exp x0 x1 x3 x2 x4 b h i x l hl,
    show idx_main_v32 (idx_main_v33 (ix4 b h i x)) = ix3 b h i from
      funext fun a => Fin.ext (by match a with | ⟨0, _⟩ => rfl | ⟨1, _⟩ => rfl | ⟨2, _⟩ => rfl), val_main_v31_apply]
  have hk : ∀ k, val_main_v30 (F := Ideal) x0 x1 x2 x3 x4 (idx_main_v31 (ix3 b h i) k) = Ideal.exp (l k - rowMax l) := fun k => by
    rw [show idx_main_v31 (ix3 b h i) k = ix4 b h i k from
      funext fun a => Fin.ext (by match a with | ⟨0, _⟩ => rfl | ⟨1, _⟩ => rfl | ⟨2, _⟩ => rfl | ⟨3, _⟩ => rfl)]
    exact ref_exp x0 x1 x3 x2 x4 b h i k l hl
  rw [Finset.sum_congr rfl fun k _ => hk k, show val_main_cst_3 (F := Ideal) (Shape.Idx.first h_S_) = (0 : EReal) from Ideal.ofBits_zero_f32,
    zero_add]
  rfl

/-- The reference's attention output, from the row of attention weights `l`. -/
theorem ref_weighted (b : Fin 4) (h : Fin 8) (i : Fin 512) (d : Fin 32) (l : Fin 512 → EReal)
    (hl : ∀ x, val_main_v34 (F := Ideal) x0 x1 x2 x3 x4 (ix4 b h i x) = l x) :
    val_main_v35 (F := Ideal) x0 x1 x2 x3 x4 x5 x6 (ix4 b h i d)
      = ∑ x, l x * val_main_v15 (F := Ideal) x0 x5 x6 (ix3 b x (col h d)) := by
  unfold val_main_v35 val_main_v17 val_main_v16
  revert hl
  generalize val_main_v34 (F := Ideal) x0 x1 x2 x3 x4 = X
  generalize val_main_v15 (F := Ideal) x0 x5 x6 = Y
  intro hl
  pointwise
  simp only [hl, col]

/-- The reference's causal attention. -/
theorem ref_dense (b : Fin 4) (h : Fin 8) (i : Fin 512) (d : Fin 32) :
    val_main_v35 (F := Ideal) x0 x1 x2 x3 x4 x5 x6 (ix4 b h i d)
      = dense h (fun i c => val_main_v3 (F := Ideal) x0 x1 x2 (ix3 b i c)) (fun i c => val_main_v9 (F := Ideal) x0 x3 x4 (ix3 b i c))
          (fun i c => val_main_v15 (F := Ideal) x0 x5 x6 (ix3 b i c)) i d :=
  ref_weighted x0 x1 x3 x5 x2 x4 x6 b h i d _ fun x =>
    ref_softmax x0 x1 x3 x2 x4 b h i x _ fun x => ref_logit x0 x1 x3 x2 x4 b h i x

end Cert.Proof
-- ==== Proof.RefExt.lean ====
module

public import proofs.«01_k».proof.Proof.RefDense

/-! The reference's attention over the remembered positions and its two results, read element by element as the
    functions of `Spec`. -/

@[expose] public section

noncomputable section

namespace Cert.Proof

open Idealize.ShloMosaic Cert.ReferenceIdeal Cert.ReferenceIdeal.Read Cert.ReferenceIdeal.Gen

variable (x0 : FVec Ideal S4x512x300 .f32) (x1 x3 x5 : FVec Ideal S300x256 .f32) (x2 x4 x6 : FVec Ideal S256 .f32)
  (x7 : FVec Ideal S256x300 .f32) (x8 : FVec Ideal S300 .f32) (x9 : FVec Ideal S8x1x1 .f32) (x10 x11 : FVec Ideal S32768x256 .f32)

/-- The reference's projected queries. -/
theorem ref_q (b : Fin 4) (i : Fin 512) (c : Fin 256) :
    val_main_v3 (F := Ideal) x0 x1 x2 (ix3 b i c) = (∑ k : Fin 300, x0 (ix3 b i k) * x1 (ix2 k c)) + x2 (ix1 c) := by
  pointwise [val_main_v3, val_main_v0, val_main_v2, val_main_v1]

/-- The reference's projected keys. -/
theorem ref_k (b : Fin 4) (i : Fin 512) (c : Fin 256) :
    val_main_v9 (F := Ideal) x0 x3 x4 (ix3 b i c) = (∑ k : Fin 300, x0 (ix3 b i k) * x3 (ix2 k c)) + x4 (ix1 c) := by
  pointwise [val_main_v9, val_main_v6, val_main_v8, val_main_v7]

/-- The reference's projected values. -/
theorem ref_v (b : Fin 4) (i : Fin 512) (c : Fin 256) :
    val_main_v15 (F := Ideal) x0 x5 x6 (ix3 b i c) = (∑ k : Fin 300, x0 (ix3 b i k) * x5 (ix2 k c)) + x6 (ix1 c) := by
  pointwise [val_main_v15, val_main_v12, val_main_v14, val_main_v13]

/-- Splitting 256 columns into heads, moving the heads in front, and back: the same rows. -/
theorem split_merge (Q : FVec Ideal S4x512x256 .f32) (b : Fin 4) (i : Fin 512) (c : Fin 256) :
    shapeCast S4x512x256 (transpose S4x512x8x32 [0, 2, 1, 3] (transpose S4x8x512x32 [0, 2, 1, 3]
      (shapeCast S4x512x8x32 Q shapeCasts_S4x512x256_S4x512x8x32) transposes_S4x512x8x32_S4x8x512x32_0_2_1_3)
      transposes_S4x8x512x32_S4x512x8x32_0_2_1_3) shapeCasts_S4x512x8x32_S4x512x256 (ix3 b i c) = Q (ix3 b i c) := by
  pointwise

/-- The same round trip, as arrays. -/
theorem split_merge_all (Q : FVec Ideal S4x512x256 .f32) :
    shapeCast S4x512x256 (transpose S4x512x8x32 [0, 2, 1, 3] (transpose S4x8x512x32 [0, 2, 1, 3]
      (shapeCast S4x512x8x32 Q shapeCasts_S4x512x256_S4x512x8x32) transposes_S4x512x8x32_S4x8x512x32_0_2_1_3)
      transposes_S4x8x512x32_S4x512x8x32_0_2_1_3) shapeCasts_S4x512x8x32_S4x512x256 = Q := by
  funext j
  obtain ⟨b, i, c, rfl⟩ : ∃ b i c, j = ix3 b i c := ⟨j 0, j 1, j 2, eq_ix3 j⟩
  exact split_merge Q b i c

/-- The reference's query rows for the search are its projected queries. -/
theorem ref_queries : val_main_v37 (F := Ideal) x0 x1 x2 = val_main_v3 (F := Ideal) x0 x1 x2 := by
  unfold val_main_v37 val_main_v36 val_main_v5 val_main_v4
  exact split_merge_all _

/-- The reference's scores. -/
theorem ref_scores (b : Fin 4) (i : Fin 512) (r : Fin 32768) :
    val_main_v38 (F := Ideal) x0 x1 x2 x10 (ix3 b i r) = ∑ k : Fin 256, val_main_v3 (F := Ideal) x0 x1 x2 (ix3 b i k) * x10 (ix2 r k) := by
  unfold val_main_v38
  rw [ref_queries]
  generalize val_main_v3 (F := Ideal) x0 x1 x2 = Q
  pointwise

/-- The reference's logits over the remembered positions. -/
theorem ref_memLogit (b : Fin 4) (h : Fin 8) (i : Fin 512) (t : Fin 32) :
    val_main_v47 (F := Ideal) x0 x1 x2 x10 (ix4 b h i t)
      = memLogit h (fun c => val_main_v3 (F := Ideal) x0 x1 x2 (ix3 b i c)) (fun t c => val_main_v39 (F := Ideal) x0 x1 x2 x10 (ix4 b i t c)) t := by
  unfold val_main_v47 val_main_v46 val_main_cst_4 val_main_v45 val_main_v42 val_main_v41 val_main_v5 val_main_v4
  generalize val_main_v3 (F := Ideal) x0 x1 x2 = Q
  generalize val_main_v39 (F := Ideal) x0 x1 x2 x10 = K
  pointwise [memLogit]

/-- The reference's greatest logit of a row over the remembered positions. -/
theorem ref_memMax (b : Fin 4) (h : Fin 8) (i : Fin 512) :
    val_main_v48 (F := Ideal) x0 x1 x2 x10 (ix3 b h i) = rowMax fun x => val_main_v47 (F := Ideal) x0 x1 x2 x10 (ix4 b h i x) := by
  unfold val_main_v48
  generalize val_main_v47 (F := Ideal) x0 x1 x2 x10 = y0
  rw [Host.reduce_eq_fold_single _ _ _ reducesTo_S4x8x512x32_S4x8x512_d3 (by decide) h_S_]
  unfold rowMax
  refine Finset.fold_congr fun k _ => ?_
  exact congrArg y0 (funext fun a => Fin.ext (by match a with | ⟨0, _⟩ => rfl | ⟨1, _⟩ => rfl | ⟨2, _⟩ => rfl | ⟨3, _⟩ => rfl))

/-- The reference's exponentials over the remembered positions, from the row of logits `l`. -/
theorem ref_memExp (b : Fin 4) (h : Fin 8) (i : Fin 512) (x : Fin 32) (l : Fin 32 → EReal)
    (hl : ∀ x, val_main_v47 (F := Ideal) x0 x1 x2 x10 (ix4 b h i x) = l x) :
    val_main_v54 (F := Ideal) x0 x1 x2 x10 (ix4 b h i x) = Ideal.exp (l x - rowMax l) := by
  rw [val_main_v54_apply, val_main_v53_apply, val_main_v52_apply, val_main_v51_apply, val_main_v50_apply, val_main_v49_apply, val_main_cst_6_apply]
  rw [show idx_main_v51 (idx_main_v52 (ix4 b h i x)) = ix3 b h i from
    funext fun a => Fin.ext (by match a with | ⟨0, _⟩ => rfl | ⟨1, _⟩ => rfl | ⟨2, _⟩ => rfl)]
  rw [ref_memMax, hl, show (FloatOps.ofBits .f32 0xFF800000#32 : Ideal .f32) = (⊥ : EReal) from masked_eq]
  simp only [hl, Ideal.maximumf_def, Ideal.hostUnary_exp_def, Ideal.subf_def, max_bot_left]

/-- The reference's attention weights over the remembered positions are the softmax of the row. -/
theorem ref_memSoftmax (b : Fin 4) (h : Fin 8) (i : Fin 512) (x : Fin 32) (l : Fin 32 → EReal)
    (hl : ∀ x, val_main_v47 (F := Ideal) x0 x1 x2 x10 (ix4 b h i x) = l x) :
    val_main_v58 (F := Ideal) x0 x1 x2 x10 (ix4 b h i x) = softmax l x := by
  rw [val_main_v58_apply, val_main_v57_apply, val_main_v56_apply, ref_memExp x0 x1 x2 x10 b h i x l hl,
    show idx_main_v56 (idx_main_v57 (ix4 b h i x)) = ix3 b h i from
      funext fun a => Fin.ext (by match a with | ⟨0, _⟩ => rfl | ⟨1, _⟩ => rfl | ⟨2, _⟩ => rfl), val_main_v55_apply]
  have hk : ∀ k, val_main_v54 (F := Ideal) x0 x1 x2 x10 (idx_main_v55 (ix3 b h i) k) = Ideal.exp (l k - rowMax l) := fun k => by
    rw [show idx_main_v55 (ix3 b h i) k = ix4 b h i k from
      funext fun a => Fin.ext (by match a with | ⟨0, _⟩ => rfl | ⟨1, _⟩ => rfl | ⟨2, _⟩ => rfl | ⟨3, _⟩ => rfl)]
    exact ref_memExp x0 x1 x2 x10 b h i k l hl
  rw [Finset.sum_congr rfl fun k _ => hk k, show val_main_cst_7 (F := Ideal) (Shape.Idx.first h_S_) = (0 : EReal) from Ideal.ofBits_zero_f32,
    zero_add]
  rfl

/-- The reference's weighted values over the remembered positions, from the row of weights `l`. -/
theorem ref_memWeighted (b : Fin 4) (h : Fin 8) (i : Fin 512) (d : Fin 32) (l : Fin 32 → EReal)
    (hl : ∀ x, val_main_v58 (F := Ideal) x0 x1 x2 x10 (ix4 b h i x) = l x) :
    val_main_v59 (F := Ideal) x0 x1 x2 x10 x11 (ix4 b h i d)
      = ∑ t, l t * val_main_v40 (F := Ideal) x0 x1 x2 x10 x11 (ix4 b i t (col h d)) := by
  unfold val_main_v59 val_main_v44 val_main_v43
  revert hl
  generalize val_main_v58 (F := Ideal) x0 x1 x2 x10 = X
  generalize val_main_v40 (F := Ideal) x0 x1 x2 x10 x11 = Y
  intro hl
  pointwise
  simp only [hl, col]

/-- The reference's attention over the remembered positions. -/
theorem ref_memAttn (b : Fin 4) (h : Fin 8) (i : Fin 512) (d : Fin 32) :
    val_main_v59 (F := Ideal) x0 x1 x2 x10 x11 (ix4 b h i d)
      = memAttn h (fun c => val_main_v3 (F := Ideal) x0 x1 x2 (ix3 b i c)) (fun t c => val_main_v39 (F := Ideal) x0 x1 x2 x10 (ix4 b i t c))
          (fun t c => val_main_v40 (F := Ideal) x0 x1 x2 x10 x11 (ix4 b i t c)) d :=
  ref_memWeighted x0 x1 x2 x10 x11 b h i d _ fun x =>
    ref_memSoftmax x0 x1 x2 x10 b h i x _ fun x => ref_memLogit x0 x1 x2 x10 b h i x

/-- The reference's gate: the logistic function written out. -/
theorem ref_gate (h : Fin 8) : val_main_v65 (F := Ideal) x9 (ix3 h 0 0) = Ideal.logistic (x9 (ix3 h 0 0)) := by
  pointwise [val_main_v65, val_main_v64, val_main_v63, val_main_v62, val_main_v61, val_main_v60, val_main_cst_8, val_main_cst_9]
  rfl

/-- The reference's gated mix, in terms of its two attentions. -/
theorem ref_mix (b : Fin 4) (i : Fin 512) (c : Fin 256) :
    val_main_v76 (F := Ideal) x0 x1 x2 x3 x4 x5 x6 x9 x10 x11 (ix3 b i c)
      = val_main_v35 (F := Ideal) x0 x1 x2 x3 x4 x5 x6 (ix4 b (headOf c) i (inHead c)) * val_main_v65 (F := Ideal) x9 (ix3 (headOf c) 0 0)
        + val_main_v59 (F := Ideal) x0 x1 x2 x10 x11 (ix4 b (headOf c) i (inHead c)) * (1 - val_main_v65 (F := Ideal) x9 (ix3 (headOf c) 0 0)) := by
  unfold val_main_v76 val_main_v75 val_main_v74 val_main_v73 val_main_v72 val_main_v71 val_main_v70 val_main_v69 val_main_cst_10 val_main_v68
    val_main_v67 val_main_v66
  generalize val_main_v35 (F := Ideal) x0 x1 x2 x3 x4 x5 x6 = A
  generalize val_main_v59 (F := Ideal) x0 x1 x2 x10 x11 = B
  generalize val_main_v65 (F := Ideal) x9 = G
  pointwise

/-- The reference's first result, at an element. -/
theorem ref_out (b : Fin 4) (i : Fin 512) (c : Fin 300) :
    val_main_v87 (F := Ideal) x0 x1 x2 x3 x4 x5 x6 x7 x8 x9 x10 x11 (ix3 b i c)
      = outRow
          (fun c => dense (headOf c) (fun i c => val_main_v3 (F := Ideal) x0 x1 x2 (ix3 b i c)) (fun i c => val_main_v9 (F := Ideal) x0 x3 x4 (ix3 b i c))
            (fun i c => val_main_v15 (F := Ideal) x0 x5 x6 (ix3 b i c)) i (inHead c))
          (fun c => val_main_v3 (F := Ideal) x0 x1 x2 (ix3 b i c)) (fun t c => val_main_v39 (F := Ideal) x0 x1 x2 x10 (ix4 b i t c))
          (fun t c => val_main_v40 (F := Ideal) x0 x1 x2 x10 x11 (ix4 b i t c)) (fun h => x9 (ix3 h 0 0)) (fun j c => x7 (ix2 j c)) (fun c => x8 (ix1 c)) c := by
  have hm := fun j => ref_mix x0 x1 x3 x5 x2 x4 x6 x9 x10 x11 b i j
  revert hm
  unfold val_main_v87 val_main_v86 val_main_v85 val_main_v84
  generalize val_main_v76 (F := Ideal) x0 x1 x2 x3 x4 x5 x6 x9 x10 x11 = M
  intro hm
  pointwise [outRow, mixed]
  simp only [hm, ref_dense, ref_memAttn, ref_gate]

/-- The reference's second result: the keys and the values stacked. -/
theorem ref_kv : val_main_v83 (F := Ideal) x0 x3 x4 x5 x6
    = concatenate S4x512x2x256 2
        [⟨S4x512x1x256, broadcastInDim S4x512x1x256 ![0, 1, 3] bcast_S4x512x256_S4x512x1x256_0_1_3 (val_main_v9 (F := Ideal) x0 x3 x4)⟩,
         ⟨S4x512x1x256, broadcastInDim S4x512x1x256 ![0, 1, 3] bcast_S4x512x256_S4x512x1x256_0_1_3 (val_main_v15 (F := Ideal) x0 x5 x6)⟩]
        concatenates_S4x512x1x256_S4x512x1x256_S4x512x2x256_d2 := by
  have hk : val_main_v78 (F := Ideal) x0 x3 x4 = val_main_v9 (F := Ideal) x0 x3 x4 := by
    unfold val_main_v78 val_main_v77 val_main_v11 val_main_v10
    exact split_merge_all _
  have hv : val_main_v80 (F := Ideal) x0 x5 x6 = val_main_v15 (F := Ideal) x0 x5 x6 := by
    unfold val_main_v80 val_main_v79 val_main_v17 val_main_v16
    exact split_merge_all _
  unfold val_main_v83 val_main_v81 val_main_v82
  rw [hk, hv]

end Cert.Proof
-- ==== Proof.Tie.lean ====
module

public import proofs.«01_k».proof.Proof.Host
public import proofs.«01_k».proof.Proof.RefExt

/-! The kernel's arrays, as functions of the arguments, are the reference's stages. -/

@[expose] public section

set_option maxRecDepth 16384

noncomputable section

namespace Cert.Proof

open Idealize.ShloMosaic Cert.KernelIdeal Cert.KernelIdeal.Gen
open Cert.ReferenceIdeal.Read

variable (x0 : FVec Ideal S4x512x300 .f32) (x1 x3 x5 : FVec Ideal S300x256 .f32) (x2 x4 x6 : FVec Ideal S256 .f32)
  (x7 : FVec Ideal S256x300 .f32) (x8 : FVec Ideal S300 .f32) (x9 : FVec Ideal S8x1x1 .f32) (x10 x11 : FVec Ideal S32768x256 .f32)

/-- A bias laid out as a row. -/
theorem bias_row (x : FVec Ideal S256 .f32) (j : Fin 256) : shapeCast S1x256 x shapeCasts_S256_S1x256 (ix2 0 j) = x (ix1 j) := by
  pointwise

/-- The output bias laid out as a row. -/
theorem bias_row_out (x : FVec Ideal S300 .f32) (j : Fin 300) : shapeCast S1x300 x shapeCasts_S300_S1x300 (ix2 0 j) = x (ix1 j) := by
  pointwise

/-- The kernel's queries are the reference's. -/
theorem tie_q : projOf x0 x1 (shapeCast S1x256 x2 shapeCasts_S256_S1x256) = val_main_v3 (F := Ideal) x0 x1 x2 := by
  funext y
  obtain ⟨b, i, c, rfl⟩ : ∃ b i c, y = ix3 b i c := ⟨y 0, y 1, y 2, eq_ix3 y⟩
  exact (congrArg (_ + ·) (bias_row x2 c)).trans (ref_q x0 x1 x2 b i c).symm

/-- The kernel's keys are the reference's. -/
theorem tie_k : projOf x0 x3 (shapeCast S1x256 x4 shapeCasts_S256_S1x256) = val_main_v9 (F := Ideal) x0 x3 x4 := by
  funext y
  obtain ⟨b, i, c, rfl⟩ : ∃ b i c, y = ix3 b i c := ⟨y 0, y 1, y 2, eq_ix3 y⟩
  exact (congrArg (_ + ·) (bias_row x4 c)).trans (ref_k x0 x3 x4 b i c).symm

/-- The kernel's values are the reference's. -/
theorem tie_v : projOf x0 x5 (shapeCast S1x256 x6 shapeCasts_S256_S1x256) = val_main_v15 (F := Ideal) x0 x5 x6 := by
  funext y
  obtain ⟨b, i, c, rfl⟩ : ∃ b i c, y = ix3 b i c := ⟨y 0, y 1, y 2, eq_ix3 y⟩
  exact (congrArg (_ + ·) (bias_row x6 c)).trans (ref_v x0 x5 x6 b i c).symm

/-- The kernel's scores are the reference's. -/
theorem tie_scores : scoreOf (val_main_v3 (F := Ideal) x0 x1 x2) x10 = val_main_v38 (F := Ideal) x0 x1 x2 x10 := by
  funext y
  obtain ⟨b, i, r, rfl⟩ : ∃ b i r, y = ix3 b i r := ⟨y 0, y 1, y 2, eq_ix3 y⟩
  exact (ref_scores x0 x1 x2 x10 b i r).symm

/-- The memories the kernel chooses are the reference's. -/
theorem tie_indices : bestOf (val_main_v38 (F := Ideal) x0 x1 x2 x10) = val_main_indices (F := Ideal) x0 x1 x2 x10 := by
  unfold val_main_indices
  rfl

/-- The remembered keys the kernel takes are the reference's. -/
theorem tie_ke : takeOf x10 (val_main_indices (F := Ideal) x0 x1 x2 x10) = val_main_v39 (F := Ideal) x0 x1 x2 x10 := by
  unfold val_main_v39 val_main_call2_v14 val_main_call2_v13 val_main_call2_v12 val_main_call2_v11 val_main_call2_v10 val_main_call2_v7
    val_main_call2_v5 val_main_call2_v4 val_main_call2_v3 val_main_call2_v1
  generalize val_main_indices (F := Ideal) x0 x1 x2 x10 = I
  rfl

/-- The remembered values the kernel takes are the reference's. -/
theorem tie_ve : takeOf x11 (val_main_indices (F := Ideal) x0 x1 x2 x10) = val_main_v40 (F := Ideal) x0 x1 x2 x10 x11 := by
  unfold val_main_v40 val_main_call3_v14 val_main_call3_v13 val_main_call3_v12 val_main_call3_v11 val_main_call3_v10 val_main_call3_v7
    val_main_call3_v5 val_main_call3_v4 val_main_call3_v3 val_main_call3_v1
  generalize val_main_indices (F := Ideal) x0 x1 x2 x10 = I
  rfl

/-- The kernel's output is the reference's. -/
theorem tie_out : outOf (denseOf (val_main_v3 (F := Ideal) x0 x1 x2) (val_main_v9 (F := Ideal) x0 x3 x4) (val_main_v15 (F := Ideal) x0 x5 x6))
      (val_main_v3 (F := Ideal) x0 x1 x2) (val_main_v39 (F := Ideal) x0 x1 x2 x10) (val_main_v40 (F := Ideal) x0 x1 x2 x10 x11) x9 x7
      (shapeCast S1x300 x8 shapeCasts_S300_S1x300)
    = val_main_v87 (F := Ideal) x0 x1 x2 x3 x4 x5 x6 x7 x8 x9 x10 x11 := by
  funext y
  obtain ⟨b, i, c, rfl⟩ : ∃ b i c, y = ix3 b i c := ⟨y 0, y 1, y 2, eq_ix3 y⟩
  refine Eq.trans ?_ (ref_out x0 x1 x3 x5 x2 x4 x6 x7 x8 x9 x10 x11 b i c).symm
  exact congrArg (fun B : Fin 300 → EReal => outRow _ _ _ _ _ _ B c) (funext fun c => bias_row_out x8 c)

/-- The kernel's stacked keys and values are the reference's. -/
theorem tie_stack : stackOf (val_main_v9 (F := Ideal) x0 x3 x4) (val_main_v15 (F := Ideal) x0 x5 x6) = val_main_v83 (F := Ideal) x0 x3 x4 x5 x6 :=
  (ref_kv x0 x3 x5 x4 x6).symm

end Cert.Proof
-- ==== Proof.Run.lean ====
module

public import proofs.«01_k».proof.Proof.Gen.KernelIdeal.Frame

/-! The launch of the kernel program with its two result buffers read: what `Gen.frame` says of the arguments, said of
    the results too. -/

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every execution ends with every unscoped buffer at the contents the segments
    leave, the fold `W8` of the launch memory. -/
theorem kernel_run : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

end Cert.Proof
-- ==== Proof.RefRun.lean ====
module

public import proofs.«01_k».proof.Defs
public import proofs.«01_k».proof.Proof.Gen.ReferenceIdeal.Read

/-! The reference's run: its two results at the stages of `Read`, and its frame. -/

@[expose] public section

noncomputable section

namespace Cert.Proof

open Idealize.ShloMosaic Idealize.ShloMosaic.TcCoe Idealize.SL.Sem Cert.ReferenceIdeal Cert.ReferenceIdeal.Gen Cert.ReferenceIdeal.Read

/-- The reference ends with its arguments as they began; it has no semaphores. -/
theorem ref_frame : Cert.quiescent_ReferenceIdeal := by
  intro m g _
  exact (θ_run Cert.ReferenceIdeal.defs _ _).mono
    (fun r h => ⟨fun c => (h c).2.2, Idealize.ShloMosaic.sem_eq_zero_of_no_sems (by decide) r.2⟩)
    (Cert.ReferenceIdeal.Value.run m g)

end Cert.Proof
-- ==== Proof.Results.lean ====
module

public import proofs.«01_k».proof.Proof.Tie
public import proofs.«01_k».proof.Proof.Run
public import proofs.«01_k».proof.Proof.RefRun

/-! What the launch leaves in its two result buffers, and the algebraic claim. -/

@[expose] public section

set_option maxRecDepth 16384

noncomputable section

namespace Cert.Proof

open Idealize.ShloMosaic Idealize.ShloMosaic.TcCoe Idealize.SL Idealize.SL.RA
open Cert.KernelIdeal Cert.KernelIdeal.Gen
open Cert.ReferenceIdeal.Read

variable (m : (ℓ : Loc nD τ sig) → Buf (Elt Ideal) ℓ) (ρ : Dev nD → PrngReg) (c : Dev nD)

/-- An argument of the launch, as an array. -/
abbrev argOf (r : Ref sig .tc) : Buf (Elt Ideal) ((c : Thread nD τ).loc r) := m ((c : Thread nD τ).loc r)

/-- A buffer written before the second region and not after it is the same at the third region's entry. -/
theorem W6_keep (r : Ref sig .tc) (h3 : ∀ w : Fin cfg1.W, Pipeline.arrRef spec1 w = r → (cfg1.win w).isOut = false)
    (h4 : r ∉ hostOps2_W) (h5 : r ∉ hostOps2_1_W) (h6 : r ∉ hostOps2_2_W) :
    W6 m ρ c (Proc.devRef .tc r) = W2 m ρ c (Proc.devRef .tc r) :=
  (W6_of m ρ c r h6).trans ((W5_of m ρ c r h5).trans ((W4_of m ρ c r h4).trans (W3_of m ρ c r h3)))

/-- The queries after the first region. -/
theorem W2_q : W2 m ρ c (Proc.devRef .tc main_v4_0) = val_main_v3 (F := Ideal) (argOf m c main_arg0) (argOf m c main_arg1) (argOf m c main_arg2) := by
  refine (W2_arr m ρ c 7).trans ((arr_q (V1 m ρ) c).trans ?_)
  refine Eq.trans ?_ (tie_q (argOf m c main_arg0) (argOf m c main_arg1) (argOf m c main_arg2))
  exact congr (congrArg₂ projOf (W1_args m ρ c main_arg0 (by decide)) (W1_args m ρ c main_arg1 (by decide))) (W1_v0 m ρ c)

/-- The keys after the first region. -/
theorem W2_k : W2 m ρ c (Proc.devRef .tc main_v4_1) = val_main_v9 (F := Ideal) (argOf m c main_arg0) (argOf m c main_arg3) (argOf m c main_arg4) := by
  refine (W2_arr m ρ c 8).trans ((arr_k (V1 m ρ) c).trans ?_)
  refine Eq.trans ?_ (tie_k (argOf m c main_arg0) (argOf m c main_arg3) (argOf m c main_arg4))
  exact congr (congrArg₂ projOf (W1_args m ρ c main_arg0 (by decide)) (W1_args m ρ c main_arg3 (by decide))) (W1_v1 m ρ c)

/-- The values after the first region. -/
theorem W2_v : W2 m ρ c (Proc.devRef .tc main_v4_2) = val_main_v15 (F := Ideal) (argOf m c main_arg0) (argOf m c main_arg5) (argOf m c main_arg6) := by
  refine (W2_arr m ρ c 9).trans ((arr_v (V1 m ρ) c).trans ?_)
  refine Eq.trans ?_ (tie_v (argOf m c main_arg0) (argOf m c main_arg5) (argOf m c main_arg6))
  exact congr (congrArg₂ projOf (W1_args m ρ c main_arg0 (by decide)) (W1_args m ρ c main_arg5 (by decide))) (W1_v2 m ρ c)

/-- The causal attention after the first region. -/
theorem W2_dense : W2 m ρ c (Proc.devRef .tc main_v4_3)
    = denseOf (W2 m ρ c (Proc.devRef .tc main_v4_0)) (W2 m ρ c (Proc.devRef .tc main_v4_1)) (W2 m ρ c (Proc.devRef .tc main_v4_2)) := by
  refine (W2_arr m ρ c 10).trans ((arr_dense (V1 m ρ) c).trans ?_)
  exact (congr (congrArg₂ denseOf ((W2_arr m ρ c 7).trans (arr_q (V1 m ρ) c)) ((W2_arr m ρ c 8).trans (arr_k (V1 m ρ) c)))
    ((W2_arr m ρ c 9).trans (arr_v (V1 m ρ) c))).symm

/-- The scores after the second region. -/
theorem W3_scores : W3 m ρ c (Proc.devRef .tc main_v5)
    = val_main_v38 (F := Ideal) (argOf m c main_arg0) (argOf m c main_arg1) (argOf m c main_arg2) (argOf m c main_arg10) := by
  refine (W3_arr m ρ c 2).trans ((arr_scores (V2 m ρ) c).trans ?_)
  refine Eq.trans ?_ (tie_scores (argOf m c main_arg0) (argOf m c main_arg1) (argOf m c main_arg2) (argOf m c main_arg10))
  exact congrArg₂ scoreOf (W2_q m ρ c) (W2_args m ρ c main_arg10 (by decide))

/-- The chosen memories. -/
theorem W4_best : W4 m ρ c (Proc.devRef .tc main_indices)
    = val_main_indices (F := Ideal) (argOf m c main_arg0) (argOf m c main_arg1) (argOf m c main_arg2) (argOf m c main_arg10) :=
  (W4_indices m ρ c).trans ((congrArg bestOf (W3_scores m ρ c)).trans (tie_indices _ _ _ _))

/-- The remembered keys at the third region's entry. -/
theorem W6_ke : W6 m ρ c (Proc.devRef .tc main_v6)
    = val_main_v39 (F := Ideal) (argOf m c main_arg0) (argOf m c main_arg1) (argOf m c main_arg2) (argOf m c main_arg10) :=
  (W6_of m ρ c main_v6 (by decide)).trans ((W5_v6 m ρ c).trans
    ((congrArg₂ takeOf (W4_args m ρ c main_arg10 (by decide)) (W4_best m ρ c)).trans (tie_ke _ _ _ _)))

/-- The remembered values at the third region's entry. -/
theorem W6_ve : W6 m ρ c (Proc.devRef .tc main_v7)
    = val_main_v40 (F := Ideal) (argOf m c main_arg0) (argOf m c main_arg1) (argOf m c main_arg2) (argOf m c main_arg10) (argOf m c main_arg11) :=
  (W6_v7 m ρ c).trans ((congrArg₂ takeOf (W5_args m ρ c main_arg11 (by decide))
    ((W5_of m ρ c main_indices (by decide)).trans (W4_best m ρ c))).trans (tie_ve _ _ _ _ _))

/-- The output bias as a row, at the third region's entry. -/
theorem W6_bias : W6 m ρ c (Proc.devRef .tc main_v3) = shapeCast S1x300 (argOf m c main_arg8) shapeCasts_S300_S1x300 :=
  (W6_keep m ρ c main_v3 (by decide) (by decide) (by decide) (by decide)).trans ((W2_of m ρ c main_v3 (by decide)).trans (W1_v3 m ρ c))

/-- The first result: the layer's output. -/
theorem W8_out : W8 m ρ c (Proc.devRef .tc main_v8)
    = val_main_v87 (F := Ideal) (argOf m c main_arg0) (argOf m c main_arg1) (argOf m c main_arg2) (argOf m c main_arg3) (argOf m c main_arg4)
        (argOf m c main_arg5) (argOf m c main_arg6) (argOf m c main_arg7) (argOf m c main_arg8) (argOf m c main_arg9) (argOf m c main_arg10)
        (argOf m c main_arg11) := by
  refine (W8_of m ρ c main_v8 (by decide)).trans ((W7_arr m ρ c 7).trans ((arr_out (V6 m ρ) c).trans ?_))
  refine Eq.trans ?_ (tie_out (argOf m c main_arg0) (argOf m c main_arg1) (argOf m c main_arg3) (argOf m c main_arg5) (argOf m c main_arg2)
    (argOf m c main_arg4) (argOf m c main_arg6) (argOf m c main_arg7) (argOf m c main_arg8) (argOf m c main_arg9) (argOf m c main_arg10)
    (argOf m c main_arg11))
  have hq : V6 m ρ c main_v4_0 = _ := (W6_keep m ρ c main_v4_0 (by decide) (by decide) (by decide) (by decide)).trans (W2_q m ρ c)
  have hd : V6 m ρ c main_v4_3 = _ := (W6_keep m ρ c main_v4_3 (by decide) (by decide) (by decide) (by decide)).trans
    ((W2_dense m ρ c).trans (congr (congrArg₂ denseOf (W2_q m ρ c) (W2_k m ρ c)) (W2_v m ρ c)))
  exact congr (congr (congr (congr (congr (congrArg₂ outOf hd hq) (W6_ke m ρ c)) (W6_ve m ρ c)) (W6_args m ρ c main_arg9 (by decide)))
    (W6_args m ρ c main_arg7 (by decide))) (W6_bias m ρ c)

/-- The second result: the keys and the values stacked. -/
theorem W8_stack : W8 m ρ c (Proc.devRef .tc main_v11)
    = val_main_v83 (F := Ideal) (argOf m c main_arg0) (argOf m c main_arg3) (argOf m c main_arg4) (argOf m c main_arg5) (argOf m c main_arg6) := by
  have hk : W7 m ρ c (Proc.devRef .tc main_v4_1) = _ := (W7_of m ρ c main_v4_1 (by decide)).trans
    ((W6_keep m ρ c main_v4_1 (by decide) (by decide) (by decide) (by decide)).trans (W2_k m ρ c))
  have hv : W7 m ρ c (Proc.devRef .tc main_v4_2) = _ := (W7_of m ρ c main_v4_2 (by decide)).trans
    ((W6_keep m ρ c main_v4_2 (by decide) (by decide) (by decide) (by decide)).trans (W2_v m ρ c))
  exact (W8_v11 m ρ c).trans ((congrArg₂ stackOf hk hv).trans (tie_stack _ _ _ _ _))

/-- From memories that agree on the arguments, the kernel and the reference end with the same two results. -/
theorem kernel_eq_ref : Cert.algebraic_KernelIdeal_ReferenceIdeal := by
  intro m g m' g' _ hm
  refine ⟨fun c => val_main_v87 (F := Ideal) (argOf m c main_arg0) (argOf m c main_arg1) (argOf m c main_arg2) (argOf m c main_arg3) (argOf m c main_arg4)
        (argOf m c main_arg5) (argOf m c main_arg6) (argOf m c main_arg7) (argOf m c main_arg8) (argOf m c main_arg9) (argOf m c main_arg10)
        (argOf m c main_arg11),
    fun c => val_main_v83 (F := Ideal) (argOf m c main_arg0) (argOf m c main_arg3) (argOf m c main_arg4) (argOf m c main_arg5) (argOf m c main_arg6),
    ?_, ?_⟩
  · exact (θ_run _ _ _).mono (fun r h c =>
      ⟨(h c _ (mem_uc main_v8 (by decide))).trans (W8_out m g c),
        (h c _ (mem_uc main_v11 (by decide))).trans (W8_stack m g c),
        (h c _ (mem_uc main_arg0 (by decide))).trans (W8_main_arg0 m g c),
        (h c _ (mem_uc main_arg1 (by decide))).trans (W8_main_arg1 m g c),
        (h c _ (mem_uc main_arg2 (by decide))).trans (W8_main_arg2 m g c),
        (h c _ (mem_uc main_arg3 (by decide))).trans (W8_main_arg3 m g c),
        (h c _ (mem_uc main_arg4 (by decide))).trans (W8_main_arg4 m g c),
        (h c _ (mem_uc main_arg5 (by decide))).trans (W8_main_arg5 m g c),
        (h c _ (mem_uc main_arg6 (by decide))).trans (W8_main_arg6 m g c),
        (h c _ (mem_uc main_arg7 (by decide))).trans (W8_main_arg7 m g c),
        (h c _ (mem_uc main_arg8 (by decide))).trans (W8_main_arg8 m g c),
        (h c _ (mem_uc main_arg9 (by decide))).trans (W8_main_arg9 m g c),
        (h c _ (mem_uc main_arg10 (by decide))).trans (W8_main_arg10 m g c),
        (h c _ (mem_uc main_arg11 (by decide))).trans (W8_main_arg11 m g c)⟩) (kernel_run m g)
  · refine (θ_run _ _ _).mono (fun r h c => ?_) (Cert.ReferenceIdeal.Value.run m' g')
    obtain ⟨e0, e1, e2, e3, e4, e5, e6, e7, e8, e9, e10, e11⟩ := hm c
    refine ⟨(h c).1.trans ((val_main_v87_eq m' c).trans ?_), (h c).2.1.trans ((val_main_v83_eq _ _ _ _ _).trans ?_), (h c).2.2⟩
    · rw [e0, e1, e2, e3, e4, e5, e6, e7, e8, e9, e10, e11]
    · rw [e0, e3, e4, e5, e6]

end Cert.Proof
-- ==== Proof.lean ====
module

public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Results
public import Idealize.ShloMosaic.Adequacy
public import Idealize.ShloMosaic.Init

@[expose] public section

noncomputable section

namespace Cert.Proof

open Idealize.ShloMosaic Idealize.SL.Sem Cert.Kernel

/-- Every claim: the three programs end with their arguments unchanged and their semaphores at zero, the idealized kernel
    is the kernel, and its two results are the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, ref_frame, trivial, kernel_eq_ref⟩

end Cert.Proof

end
